-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17_0) = v0 c
          ∧ r.2.mem ((c.tc : Thread Cert.ReferenceIdeal.nD Cert.ReferenceIdeal.τ).loc Cert.ReferenceIdeal.main_v17_1) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S2x2048x3584 : Shape := ⟨3, ![2, 2048, 3584]⟩
abbrev S_ : Shape := ⟨0, ![]⟩
abbrev S2x2048x1792 : Shape := ⟨3, ![2, 2048, 1792]⟩
abbrev S3584x1792 : Shape := ⟨2, ![3584, 1792]⟩

class Facts : Prop where
  bitsLt_bf16_f32 : FTy.bits .bf16 < FTy.bits .f32
  reducesTo_S2x2048x1792_S_d0_1_2 : S2x2048x1792.ReducesTo [0, 1, 2] S_
  h_S_ : 0 < S_.numel

variable [Facts]

def fn {F : FTy → Type} [FloatOps F] (main_arg0 : FVec F S2x2048x3584 .fp8e4m3) (main_arg1 : FVec F S_ .f32) (main_arg2 : FVec F S2x2048x1792 .bf16) (main_arg3 : FVec F S3584x1792 .f32) : IVec S_ 1 :=
  let main_v0 : FVec F S2x2048x1792 .f32 := (extf .f32 · bitsLt_bf16_f32) main_arg2
  let main_v1 : FVec F S2x2048x1792 .f32 := Host.absf main_v0
  let main_cst : FVec F S_ .f32 := constant S_ .f32 0xFF800000#32
  let main_v2 : FVec F S_ .f32 := (fun x v => Host.reduce FloatOps.maximumf x v reducesTo_S2x2048x1792_S_d0_1_2 h_S_) main_v1 main_cst
  let main_cst_0 : FVec F S_ .f32 := constant S_ .f32 0x37924925#32
  let main_v3 : FVec F S_ .f32 := mulf main_v2 main_cst_0
  let main_cst_1 : FVec F S_ .f32 := constant S_ .f32 0x00000000#32
  let main_v4 : IVec S_ 1 := cmpf .oeq main_v2 main_cst_1
  let main_cst_2 : FVec F S_ .f32 := constant S_ .f32 0x00800000#32
  let main_v5 : IVec S_ 1 := cmpf .oge main_v3 main_cst_2
  let main_cst_3 : FVec F S_ .f32 := constant S_ .f32 0x7E800000#32
  let main_v6 : IVec S_ 1 := cmpf .olt main_v3 main_cst_3
  let main_v7 : IVec S_ 1 := andi main_v5 main_v6
  let main_v8 : IVec S_ 1 := ori main_v4 main_v7
  main_v8
-- ==== Kernel.lean ====
abbrev S2x2048x3584 : Shape := ⟨3, ![2, 2048, 3584]⟩
abbrev S_ : Shape := ⟨0, ![]⟩
abbrev S2x2048x1792 : Shape := ⟨3, ![2, 2048, 1792]⟩
abbrev S3584x1792 : Shape := ⟨2, ![3584, 1792]⟩
abbrev S1x1 : Shape := ⟨2, ![1, 1]⟩
abbrev S4096x3584 : Shape := ⟨2, ![4096, 3584]⟩
abbrev S4096x1792 : Shape := ⟨2, ![4096, 1792]⟩
abbrev S4096x512 : Shape := ⟨2, ![4096, 512]⟩
abbrev S512x1792 : Shape := ⟨2, ![512, 1792]⟩
abbrev S16x1792 : Shape := ⟨2, ![16, 1792]⟩
abbrev S64x1792 : Shape := ⟨2, ![64, 1792]⟩
abbrev S4x16x1792 : Shape := ⟨3, ![4, 16, 1792]⟩
abbrev S1x16x1792 : Shape := ⟨3, ![1, 16, 1792]⟩
abbrev S1 : Shape := ⟨1, ![1]⟩
abbrev S1x1x1 : Shape := ⟨3, ![1, 1, 1]⟩

abbrev nBuf : Space → Nat
  | .hbm => 12
  | .vmem => 10
  | .smem => 1
  | _ => 0

abbrev bufTy : (tb : Table) → Fin (tcTables nBuf tb) → BufTy
  | .hbm, ⟨0, _⟩ => ⟨S2x2048x3584, .fp8e4m3⟩
  | .hbm, ⟨1, _⟩ => ⟨S_, .f32⟩
  | .hbm, ⟨2, _⟩ => ⟨S2x2048x1792, .bf16⟩
  | .hbm, ⟨3, _⟩ => ⟨S3584x1792, .f32⟩
  | .hbm, ⟨4, _⟩ => ⟨S1x1, .f32⟩
  | .hbm, ⟨5, _⟩ => ⟨S4096x3584, .fp8e4m3⟩
  | .hbm, ⟨6, _⟩ => ⟨S4096x1792, .bf16⟩
  | .hbm, ⟨7, _⟩ => ⟨S3584x1792, .f32⟩
  | .hbm, ⟨8, _⟩ => ⟨S4096x1792, .fp8e5m2⟩
  | .hbm, ⟨9, _⟩ => ⟨S1x1, .f32⟩
  | .hbm, ⟨10, _⟩ => ⟨S2x2048x1792, .fp8e5m2⟩
  | .hbm, ⟨11, _⟩ => ⟨S_, .f32⟩
  | .local _ .vmem, ⟨0, _⟩ => ⟨S4096x512, .fp8e4m3⟩
  | .local _ .vmem, ⟨1, _⟩ => ⟨S4096x512, .fp8e4m3⟩
  | .local _ .vmem, ⟨2, _⟩ => ⟨S4096x1792, .bf16⟩
  | .local _ .vmem, ⟨3, _⟩ => ⟨S512x1792, .f32⟩
  | .local _ .vmem, ⟨4, _⟩ => ⟨S512x1792, .f32⟩
  | .local _ .vmem, ⟨5, _⟩ => ⟨S512x1792, .f32⟩
  | .local _ .vmem, ⟨6, _⟩ => ⟨S512x1792, .f32⟩
  | .local _ .vmem, ⟨7, _⟩ => ⟨S4096x1792, .fp8e5m2⟩
  | .local _ .vmem, ⟨8, _⟩ => ⟨S1x1, .f32⟩
  | .local _ .vmem, ⟨9, _⟩ => ⟨S1x1, .f32⟩
  | .local _ .smem, ⟨0, _⟩ => ⟨S1x1, .f32⟩
  | _, _ => ⟨S2x2048x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c64_i32 : BitVec 32 := 64#32
  let v15 : BitVec 32 := Scalar.addi c0_i32_11 c64_i32
  let c1_i32 : BitVec 32 := 1#32
  ⟨c0_i32_11, v15, c1_i32⟩
def k0_off1 (k0_t1 : Fin k0_t1_loop.trips) : Fin 2 → Nat :=
  let c0_i32_11 : BitVec 32 := 0#32
  let c1_i32 : BitVec 32 := 1#32
  let arg9 : BitVec 32 := Scf.iv c0_i32_11 c1_i32 k0_t1
  let c64_i32_50 : BitVec 32 := 64#32
  let v130 : BitVec 32 := Scalar.muli arg9 c64_i32_50
  let v131 : Index := Scalar.indexCast v130
  let c0_51 : Index := 0#32
  ![v131.toNat, 0]
@[reducible] def k0_t2_loop : Scf.Loop 32 :=
  let c0_i32_40 : BitVec 32 := 0#32
  let c64_i32_41 : BitVec 32 := 64#32
  let v122 : BitVec 32 := Scalar.addi c0_i32_40 c64_i32_41
  let c1_i32_42 : BitVec 32 := 1#32
  ⟨c0_i32_40, v122, c1_i32_42⟩
def k0_off2 (k0_t2 : Fin k0_t2_loop.trips) : Fin 2 → Nat :=
  let c0_i32_40 : BitVec 32 := 0#32
  let c1_i32_42 : BitVec 32 := 1#32
  let arg9 : BitVec 32 := Scf.iv c0_i32_40 c1_i32_42 k0_t2
  let c64_i32_50 : BitVec 32 := 64#32
  let v130 : BitVec 32 := Scalar.muli arg9 c64_i32_50
  let v131 : Index := Scalar.indexCast v130
  let c0_51 : Index := 0#32
  ![v131.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x1792 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x2048x3584 : Shape := ⟨3, ![2, 2048, 3584]⟩
abbrev S_ : Shape := ⟨0, ![]⟩
abbrev S2x2048x1792 : Shape := ⟨3, ![2, 2048, 1792]⟩
abbrev S3584x1792 : Shape := ⟨2, ![3584, 1792]⟩
abbrev S1x1 : Shape := ⟨2, ![1, 1]⟩
abbrev S4096x3584 : Shape := ⟨2, ![4096, 3584]⟩
abbrev S4096x1792 : Shape := ⟨2, ![4096, 1792]⟩

abbrev nBuf : Space → Nat
  | .hbm => 32
  | .vmem => 7
  | .smem => 0
  | _ => 0

abbrev bufTy : (tb : Table) → Fin (tcTables nBuf tb) → BufTy
  | .hbm, ⟨0, _⟩ => ⟨S2x2048x3584, .fp8e4m3⟩
  | .hbm, ⟨1, _⟩ => ⟨S_, .f32⟩
  | .hbm, ⟨2, _⟩ => ⟨S2x2048x1792, .bf16⟩
  | .hbm, ⟨3, _⟩ => ⟨S3584x1792, .f32⟩
  | .hbm, ⟨4, _⟩ => ⟨S2x2048x1792, .f32⟩
  | .hbm, ⟨5, _⟩ => ⟨S2x2048x1792, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S3584x1792, .f32⟩
  | .hbm, ⟨31, _⟩ => ⟨S2x2048x1792, .fp8e5m2⟩
  | .local _ .vmem, ⟨0, _⟩ => ⟨S2x2048x3584, .fp8e4m3⟩
  | .local _ .vmem, ⟨1, _⟩ => ⟨S2x2048x1792, .bf16⟩
  | .local _ .vmem, ⟨2, _⟩ => ⟨S1x1, .f32⟩
  | .local _ .vmem, ⟨3, _⟩ => ⟨S1x1, .f32⟩
  | .local _ .vmem, ⟨4, _⟩ => ⟨S3584x1792, .f32⟩
  | .local _ .vmem, ⟨5, _⟩ => ⟨S3584x1792, .f32⟩
  | .local _ .vmem, ⟨6, _⟩ => ⟨S2x2048x1792, .fp8e5m2⟩
  | _, _ => ⟨S2x2048x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_call0_v0 : Ref sig .tc := ⟨.hbm, 20, rfl⟩
abbrev main_v10 : Ref sig .tc := ⟨.hbm, 21, rfl⟩
abbrev main_cst_5 : Ref sig .tc := ⟨.hbm, 22, rfl⟩
abbrev main_v11 : Ref sig .tc := ⟨.hbm, 23, rfl⟩
abbrev main_v12 : Ref sig .tc := ⟨.hbm, 24, rfl⟩
abbrev main_cst_6 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x2048x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2048x1792 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Stage.lean ====
/- The staging buffers, the branch condition and the scratch of the kernel's body, named: what the runs of the body
   (Proof/RunFirst.lean, Proof/RunRest.lean) are stated over. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.TableIdle

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, k0_cond1, e0]
    word_cmp
   : ∀ t : Fin grid0.N, cond0_0 (grid0.coords t) ↔ t.val % 7 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1792 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1792 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1792 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x1792 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1x1 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Run

end
-- ==== Proof.Values.lean ====
/- What the kernel computes, as plain functions of its blocks: the running maximum over the chunks of the gradient, the
   scale's exponent, the scale, the fp8 codes, the rescaling factor of the products, and one tile of the weight gradient. -/
module

public import proofs.«01_k».proof.Proof.Gen.KernelIdeal.Skeleton
public import Idealize.ShloMosaic.Lib.Pointwise.Index

@[expose] public section

noncomputable section

namespace Cert.KernelIdeal.Run

open Cert.KernelIdeal.Gen
open Idealize.ShloMosaic

variable {F : FTy → Type} [FloatOps F]

/-- The index of the gradient at row `r` (taken modulo 4096, so that any number is a row) and column `l`. -/
def rowIdx (r : ℕ) (l : Fin 1792) : S4096x1792.Idx := ix2 (n0 := 4096) (n1 := 1792) ⟨r % 4096, Nat.mod_lt _ (by decide)⟩ l

/-- Chunk `k` of the gradient: its rows `64 k`, …, `64 k + 63`. -/
def chunk (y : Vec F S4096x1792 .bf16) (k : ℕ) : Vec F S64x1792 .bf16 :=
  fun j => y (rowIdx (64 * k + (j 0).val) (j 1))

/-- The running maximum of the magnitudes after `k` chunks: 16 rows, row `r` of which has met the rows congruent to
    `r` modulo 16. -/
def maxAcc (y : Vec F S4096x1792 .bf16) : ℕ → FVec F S16x1792 .bf16
  | 0 => k0_pay5
  | k + 1 => k0_pay6 (maxAcc y k) (chunk y k)

/-- The exponent of the scale that the running maximum `v` gives. -/
def expoOf (v : FVec F S16x1792 .bf16) : IVec S1x1 32 :=
  k0_pay11 (k0_pay7 v) (k0_pay8 v) (k0_pay9 v) (k0_pay10 v) 23#32

/-- The scale that the running maximum `v` gives. -/
def scaleOf (v : FVec F S16x1792 .bf16) : FVec F S1x1 .f32 :=
  k0_pay1 (k0_pay12 (k0_pay7 v) (k0_pay8 v) (k0_pay9 v) (k0_pay10 v) 23#32)
    (k0_pay13 (k0_pay7 v) (k0_pay8 v) (k0_pay9 v) (k0_pay10 v) 23#32)
    (k0_pay14 (k0_pay7 v) (k0_pay8 v) (k0_pay9 v) (k0_pay10 v) 23#32) 255#32

/-- The factor by which the products are rescaled: the inputs' scale times the gradient's scale. -/
def factorOf (v : FVec F S16x1792 .bf16) (s : Elt F .f32) : FVec F S1x1 .f32 :=
  k0_pay3 (k0_pay12 (k0_pay7 v) (k0_pay8 v) (k0_pay9 v) (k0_pay10 v) 23#32)
    (k0_pay13 (k0_pay7 v) (k0_pay8 v) (k0_pay9 v) (k0_pay10 v) 23#32)
    (k0_pay14 (k0_pay7 v) (k0_pay8 v) (k0_pay9 v) (k0_pay10 v) 23#32) 255#32 s

/-- The scale of the gradient `y`. -/
def dyScale (y : Vec F S4096x1792 .bf16) : FVec F S1x1 .f32 := scaleOf (maxAcc y 64)

/-- The factor by which the products are rescaled, from the inputs' scale `s` (a one-element array) and the gradient. -/
def factor (s : Vec F S1x1 .f32) (y : Vec F S4096x1792 .bf16) : FVec F S1x1 .f32 :=
  factorOf (maxAcc y 64) (s (ix2 (n0 := 1) (n1 := 1) 0 0))

/-- The fp8 codes of the gradient at the exponent `e`: each entry quantised in its chunk. -/
def codesAt (e : IVec S1x1 32) (y : Vec F S4096x1792 .bf16) : Vec F S4096x1792 .fp8e5m2 :=
  fun j => k0_pay2 e (chunk y ((j 0).val / 64))
    (ix2 (n0 := 64) (n1 := 1792) ⟨(j 0).val % 64, Nat.mod_lt _ (by decide)⟩ (j 1))

/-- The fp8 codes of the gradient, at the exponent of its own scale. -/
def codes (y : Vec F S4096x1792 .bf16) : Vec F S4096x1792 .fp8e5m2 := codesAt (expoOf (maxAcc y 64)) y

/-- One tile of 512 rows of the weight gradient. -/
def tile (s : Vec F S1x1 .f32) (x : Vec F S4096x512 .fp8e4m3) (y : Vec F S4096x1792 .bf16) (a : Vec F S512x1792 .f32) :
    Vec F S512x1792 .f32 :=
  k0_pay4 x (codes y) a (factor s y)

end Cert.KernelIdeal.Run

end
-- ==== Proof.LoopValues.lean ====
/- What the two loops of the kernel's first grid point leave: the first the running maximum over the chunks, the second
   the codes of the whole gradient. -/
module

public import proofs.«01_k».proof.Proof.Stage
public import proofs.«01_k».proof.Proof.Values
public import Idealize.ShloMosaic.Lib.WholeRead
public import Idealize.ShloMosaic.Lib.Writes

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A load of trip `k`'s rows, in the first loop, reads chunk `k`. -/
theorem chunk_read1 (i : grid0.Coords) (arg3 : Memref sig .tc .vmem S4096x1792 .bf16) (harg3 : arg3.IsWhole)
    (hc0 : cond0_0 i) (y : Vec F S4096x1792 .bf16) (k : Fin k0_t1_loop.trips) :
    View.readAt (Elt F) arg3.view (Rect.unit (s := S4096x1792) (k0_off1 k) S64x1792.size (k0_off1_inb i k hc0)).toLoadRect
      (harg3.unread y) = chunk y k.val := by
  have hk : k.val < 64 := Nat.lt_of_lt_of_le k.isLt k0_t1_abs.2.1
  funext j
  rw [Memref.IsWhole.readAt_unread harg3]
  unfold chunk rowIdx
  congr 1
  funext a
  match a with
  | ⟨0, _⟩ =>
    have h0 : (j 0).val < 64 := (j 0).isLt
    apply Fin.ext
    have ho : k0_off1 k 0 = 64 * k.val := congrFun (k0_off1_eq k) 0
    show k0_off1 k 0 + 1 * (j 0).val = (64 * k.val + (j 0).val) % 4096
    omega
  | ⟨1, _⟩ =>
    apply Fin.ext
    have ho : k0_off1 k 1 = 0 := congrFun (k0_off1_eq k) 1
    show k0_off1 k 1 + 1 * (j 1).val = (j 1).val
    omega

/-- A load of trip `k`'s rows, in the second loop, reads chunk `k`. -/
theorem chunk_read2 (i : grid0.Coords) (arg3 : Memref sig .tc .vmem S4096x1792 .bf16) (harg3 : arg3.IsWhole)
    (hc0 : cond0_0 i) (y : Vec F S4096x1792 .bf16) (k : Fin k0_t2_loop.trips) :
    View.readAt (Elt F) arg3.view (Rect.unit (s := S4096x1792) (k0_off2 k) S64x1792.size (k0_off2_inb i k hc0)).toLoadRect
      (harg3.unread y) = chunk y k.val := by
  have hk : k.val < 64 := Nat.lt_of_lt_of_le k.isLt k0_t2_abs.2.1
  funext j
  rw [Memref.IsWhole.readAt_unread harg3]
  unfold chunk rowIdx
  congr 1
  funext a
  match a with
  | ⟨0, _⟩ =>
    have h0 : (j 0).val < 64 := (j 0).isLt
    apply Fin.ext
    have ho : k0_off2 k 0 = 64 * k.val := congrFun (k0_off2_eq k) 0
    show k0_off2 k 0 + 1 * (j 0).val = (64 * k.val + (j 0).val) % 4096
    omega
  | ⟨1, _⟩ =>
    apply Fin.ext
    have ho : k0_off2 k 1 = 0 := congrFun (k0_off2_eq k) 1
    show k0_off2 k 1 + 1 * (j 1).val = (j 1).val
    omega

/-- The first loop carries the running maximum. -/
theorem loop1_eq (c : Dev nD) (i : grid0.Coords) (arg1 : Memref sig .tc .smem S1x1 .f32) (harg1 : arg1.IsWhole) (arg2 : Memref sig .tc .vmem S4096x512 .fp8e4m3) (harg2 : arg2.IsWhole) (arg3 : Memref sig .tc .vmem S4096x1792 .bf16) (harg3 : arg3.IsWhole) (arg4 : Memref sig .tc .vmem S512x1792 .f32) (harg4 : arg4.IsWhole) (arg5 : Memref sig .tc .vmem S512x1792 .f32) (harg5 : arg5.IsWhole) (arg6 : Memref sig .tc .vmem S4096x1792 .fp8e5m2) (harg6 : arg6.IsWhole) (arg7 : Memref sig .tc .vmem S1x1 .f32) (harg7 : arg7.IsWhole) (arg8 : Memref sig .tc .vmem S1x1 .f32) (harg8 : arg8.IsWhole) (hc0 : cond0_0 i) (y : Vec F S4096x1792 .bf16) :
    ∀ n : ℕ, n ≤ k0_t1_loop.trips →
      st_k0_t1 (F := F) Variants.none c none i arg1 harg1 arg2 harg2 arg3 harg3 arg4 harg4 arg5 harg5 arg6 harg6 arg7 harg7 arg8 harg8 hc0 (harg3.unread y) k0_pay5 n = maxAcc y n
  | 0, _ => by rw [st_k0_t1_zero]; rfl
  | n + 1, h => by
    rw [st_k0_t1_succ Variants.none c none i arg1 harg1 arg2 harg2 arg3 harg3 arg4 harg4 arg5 harg5 arg6 harg6 arg7 harg7 arg8 harg8 hc0 (harg3.unread y) k0_pay5 ⟨n, h⟩]
    unfold tripR_k0_t1 trip_k0_t1
    dsimp only
    rw [loop1_eq c i arg1 harg1 arg2 harg2 arg3 harg3 arg4 harg4 arg5 harg5 arg6 harg6 arg7 harg7 arg8 harg8 hc0 y n (Nat.le_of_succ_le h), chunk_read1 i arg3 harg3 hc0 y ⟨n, h⟩]
    rfl

/-- The codes that trip `k` of the second loop stores are, where they lie, the codes of the whole gradient. -/
theorem piece_eq (i : grid0.Coords) (arg3 : Memref sig .tc .vmem S4096x1792 .bf16) (harg3 : arg3.IsWhole)
    (hc0 : cond0_0 i) (e : IVec S1x1 32) (y : Vec F S4096x1792 .bf16) (k : Fin k0_t2_loop.trips) (x : S64x1792.Idx) :
    k0_pay2 e (View.readAt (Elt F) arg3.view (Rect.unit (s := S4096x1792) (k0_off2 k) S64x1792.size (k0_off2_inb i k hc0)).toLoadRect
      (harg3.unread y)) x
      = codesAt e y ((Rect.unit (s := S4096x1792) (k0_off2 k) S64x1792.size (k0_off2_inb i k hc0)).emb x) := by
  rw [chunk_read2 i arg3 harg3 hc0 y k]
  have hk : k.val < 64 := Nat.lt_of_lt_of_le k.isLt k0_t2_abs.2.1
  have hx0 : (x 0).val < 64 := (x 0).isLt
  have ho0 : k0_off2 k 0 = 64 * k.val := congrFun (k0_off2_eq k) 0
  have ho1 : k0_off2 k 1 = 0 := congrFun (k0_off2_eq k) 1
  have e0 : (((Rect.unit (s := S4096x1792) (k0_off2 k) S64x1792.size (k0_off2_inb i k hc0)).emb x) 0).val = 64 * k.val + (x 0).val := by
    show k0_off2 k 0 + 1 * (x 0).val = _
    omega
  have e1 : (((Rect.unit (s := S4096x1792) (k0_off2 k) S64x1792.size (k0_off2_inb i k hc0)).emb x) 1).val = (x 1).val := by
    show k0_off2 k 1 + 1 * (x 1).val = _
    omega
  revert e0 e1
  generalize (Rect.unit (s := S4096x1792) (k0_off2 k) S64x1792.size (k0_off2_inb i k hc0)).emb x = z
  intro e0 e1
  unfold codesAt
  have hq : (z 0).val / 64 = k.val := by omega
  rw [hq]
  congr 1
  funext a
  match a with
  | ⟨0, _⟩ => exact Fin.ext (by show (x 0).val = (z 0).val % 64; omega)
  | ⟨1, _⟩ => exact Fin.ext e1.symm

/-- Every piece that the second loop has written before trip `n` holds, where it lies, the codes of the chunk it read. -/
theorem loop2_pieces (c : Dev nD) (i : grid0.Coords) (arg1 : Memref sig .tc .smem S1x1 .f32) (harg1 : arg1.IsWhole) (arg2 : Memref sig .tc .vmem S4096x512 .fp8e4m3) (harg2 : arg2.IsWhole) (arg3 : Memref sig .tc .vmem S4096x1792 .bf16) (harg3 : arg3.IsWhole) (arg4 : Memref sig .tc .vmem S512x1792 .f32) (harg4 : arg4.IsWhole) (arg5 : Memref sig .tc .vmem S512x1792 .f32) (harg5 : arg5.IsWhole) (arg6 : Memref sig .tc .vmem S4096x1792 .fp8e5m2) (harg6 : arg6.IsWhole) (arg7 : Memref sig .tc .vmem S1x1 .f32) (harg7 : arg7.IsWhole) (arg8 : Memref sig .tc .vmem S1x1 .f32) (harg8 : arg8.IsWhole) (hc0 : cond0_0 i) (e : IVec S1x1 32) (y : Vec F S4096x1792 .bf16) :
    ∀ n : ℕ, n ≤ k0_t2_loop.trips →
      ∀ p ∈ pb_k0_t2 (F := F) Variants.none c none i arg1 harg1 arg2 harg2 arg3 harg3 arg4 harg4 arg5 harg5 arg6 harg6 arg7 harg7 arg8 harg8 hc0 e (harg3.unread y) n, ∀ x,
        p.2 x = codesAt e y (p.1.emb x)
  | 0, _ => by intro p hp; exact absurd hp (by rw [pb_k0_t2.eq_1]; exact List.not_mem_nil)
  | n + 1, h => by
    intro p hp x
    rw [pb_k0_t2_succ Variants.none c none i arg1 harg1 arg2 harg2 arg3 harg3 arg4 harg4 arg5 harg5 arg6 harg6 arg7 harg7 arg8 harg8 hc0 e (harg3.unread y) ⟨n, h⟩, List.mem_append] at hp
    rcases hp with hp | hp
    · unfold tripL_k0_t2 trip_k0_t2 at hp
      dsimp only at hp
      rw [List.mem_singleton] at hp
      subst hp
      exact piece_eq i arg3 harg3 hc0 e y ⟨n, h⟩ x
    · exact loop2_pieces c i arg1 harg1 arg2 harg2 arg3 harg3 arg4 harg4 arg5 harg5 arg6 harg6 arg7 harg7 arg8 harg8 hc0 e y n (Nat.le_of_succ_le h) p hp x

/-- The second loop's pieces cover the whole array. -/
theorem loop2_cover (c : Dev nD) (i : grid0.Coords) (arg1 : Memref sig .tc .smem S1x1 .f32) (harg1 : arg1.IsWhole) (arg2 : Memref sig .tc .vmem S4096x512 .fp8e4m3) (harg2 : arg2.IsWhole) (arg3 : Memref sig .tc .vmem S4096x1792 .bf16) (harg3 : arg3.IsWhole) (arg4 : Memref sig .tc .vmem S512x1792 .f32) (harg4 : arg4.IsWhole) (arg5 : Memref sig .tc .vmem S512x1792 .f32) (harg5 : arg5.IsWhole) (arg6 : Memref sig .tc .vmem S4096x1792 .fp8e5m2) (harg6 : arg6.IsWhole) (arg7 : Memref sig .tc .vmem S1x1 .f32) (harg7 : arg7.IsWhole) (arg8 : Memref sig .tc .vmem S1x1 .f32) (harg8 : arg8.IsWhole) (hc0 : cond0_0 i) (e : IVec S1x1 32) (y : Vec F S4096x1792 .bf16) (j : S4096x1792.Idx) :
    ∀ n : ℕ, n ≤ k0_t2_loop.trips → (j 0).val < 64 * n →
      ∃ p ∈ pb_k0_t2 (F := F) Variants.none c none i arg1 harg1 arg2 harg2 arg3 harg3 arg4 harg4 arg5 harg5 arg6 harg6 arg7 harg7 arg8 harg8 hc0 e (harg3.unread y) n, j ∈ p.1.set
  | 0, _, hj => absurd hj (by omega)
  | n + 1, h, hj => by
    rw [pb_k0_t2_succ Variants.none c none i arg1 harg1 arg2 harg2 arg3 harg3 arg4 harg4 arg5 harg5 arg6 harg6 arg7 harg7 arg8 harg8 hc0 e (harg3.unread y) ⟨n, h⟩]
    by_cases hn : (j 0).val < 64 * n
    · obtain ⟨p, hp, hjp⟩ := loop2_cover c i arg1 harg1 arg2 harg2 arg3 harg3 arg4 harg4 arg5 harg5 arg6 harg6 arg7 harg7 arg8 harg8 hc0 e y j n (Nat.le_of_succ_le h) hn
      exact ⟨p, List.mem_append_right _ hp, hjp⟩
    · unfold tripL_k0_t2 trip_k0_t2
      dsimp only
      refine ⟨_, List.mem_append_left _ (List.mem_singleton_self _), ?_⟩
      refine (Rect.mem_set_unit (inb := k0_off2_inb i ⟨n, h⟩ hc0)).2 fun a => ?_
      match a with
      | ⟨0, _⟩ =>
        have ho : k0_off2 ⟨n, h⟩ 0 = 64 * n := congrFun (k0_off2_eq ⟨n, h⟩) 0
        show k0_off2 ⟨n, h⟩ 0 ≤ (j 0).val ∧ (j 0).val < k0_off2 ⟨n, h⟩ 0 + 64
        omega
      | ⟨1, _⟩ =>
        have h1 : (j 1).val < 1792 := (j 1).isLt
        have ho : k0_off2 ⟨n, h⟩ 1 = 0 := congrFun (k0_off2_eq ⟨n, h⟩) 1
        show k0_off2 ⟨n, h⟩ 1 ≤ (j 1).val ∧ (j 1).val < k0_off2 ⟨n, h⟩ 1 + 1792
        omega

/-- What the second loop leaves in the codes' buffer: the codes of every entry. -/
theorem loop2_read (c : Dev nD) (i : grid0.Coords) (arg1 : Memref sig .tc .smem S1x1 .f32) (harg1 : arg1.IsWhole) (arg2 : Memref sig .tc .vmem S4096x512 .fp8e4m3) (harg2 : arg2.IsWhole) (arg3 : Memref sig .tc .vmem S4096x1792 .bf16) (harg3 : arg3.IsWhole) (arg4 : Memref sig .tc .vmem S512x1792 .f32) (harg4 : arg4.IsWhole) (arg5 : Memref sig .tc .vmem S512x1792 .f32) (harg5 : arg5.IsWhole) (arg6 : Memref sig .tc .vmem S4096x1792 .fp8e5m2) (harg6 : arg6.IsWhole) (arg7 : Memref sig .tc .vmem S1x1 .f32) (harg7 : arg7.IsWhole) (arg8 : Memref sig .tc .vmem S1x1 .f32) (harg8 : arg8.IsWhole) (hc0 : cond0_0 i) (y : Vec F S4096x1792 .bf16) (f : BufTy.Contents (Elt F) arg6.view.ty) :
    arg6.view.read (Elt F) (arg6.view.writes (Elt F) f
      (pb_k0_t2 (F := F) Variants.none c none i arg1 harg1 arg2 harg2 arg3 harg3 arg4 harg4 arg5 harg5 arg6 harg6 arg7 harg7 arg8 harg8 hc0 (expoOf (maxAcc y 64)) (harg3.unread y) k0_t2_loop.trips)) = codes y := by
  funext j
  rw [View.read_writes_apply_of_pieces _ _ _ _ (loop2_pieces c i arg1 harg1 arg2 harg2 arg3 harg3 arg4 harg4 arg5 harg5 arg6 harg6 arg7 harg7 arg8 harg8 hc0 (expoOf (maxAcc y 64)) y k0_t2_loop.trips le_rfl) j
    (loop2_cover c i arg1 harg1 arg2 harg2 arg3 harg3 arg4 harg4 arg5 harg5 arg6 harg6 arg7 harg7 arg8 harg8 hc0 (expoOf (maxAcc y 64)) y j k0_t2_loop.trips le_rfl
      (by rw [show k0_t2_loop.trips = 64 from rfl]; exact (j 0).isLt))]
  rfl

end Cert.KernelIdeal.Run

end
-- ==== Proof.RunFirst.lean ====
/- The kernel's body at the first grid point: it quantises the gradient and computes the first tile. -/
module

public import proofs.«01_k».proof.Proof.LoopValues
public import Idealize.ShloMosaic.Lib.VecWindow

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The one-element shape has an element. -/
theorem numel1_pos : 0 < S1x1.numel := by decide

set_option maxHeartbeats 2000000 in
/-- At the first grid point, on whole buffers with the inputs at `x0`, …, `x3`, the body leaves the inputs as they were,
    the first tile, the codes and the scale in the outputs' buffers, and the rescaling factor in the scratch. -/
theorem runFirst (c : Dev nD) (i : grid0.Coords) (arg1 : Memref sig .tc .smem S1x1 .f32) (harg1 : arg1.IsWhole) (arg2 : Memref sig .tc .vmem S4096x512 .fp8e4m3) (harg2 : arg2.IsWhole) (arg3 : Memref sig .tc .vmem S4096x1792 .bf16) (harg3 : arg3.IsWhole) (arg4 : Memref sig .tc .vmem S512x1792 .f32) (harg4 : arg4.IsWhole) (arg5 : Memref sig .tc .vmem S512x1792 .f32) (harg5 : arg5.IsWhole) (arg6 : Memref sig .tc .vmem S4096x1792 .fp8e5m2) (harg6 : arg6.IsWhole) (arg7 : Memref sig .tc .vmem S1x1 .f32) (harg7 : arg7.IsWhole) (arg8 : Memref sig .tc .vmem S1x1 .f32) (harg8 : arg8.IsWhole) (hc0 : cond0_0 i)
    (x0 : Vec F S1x1 .f32) (x1 : Vec F S4096x512 .fp8e4m3) (x2 : Vec F S4096x1792 .bf16) (x3 : Vec F S512x1792 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (tile x0 x1 x2 x3) ∗ owns (c : Thread nD τ) arg6 fullShare (codes x2) ∗ owns (c : Thread nD τ) arg7 fullShare (dyScale x2) ∗ owns (c : Thread nD τ) arg8 fullShare (factor x0 x2)) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    have h1 : st_k0_t1 (F := F) Variants.none c none i arg1 harg1 arg2 harg2 arg3 harg3 arg4 harg4 arg5 harg5 arg6 harg6 arg7 harg7 arg8 harg8 hc0 (harg3.unread x2) k0_pay5
        (Scf.trips k0_t1_loop.lb k0_t1_loop.ub k0_t1_loop.st) = maxAcc x2 64 :=
      (loop1_eq c i arg1 harg1 arg2 harg2 arg3 harg3 arg4 harg4 arg5 harg5 arg6 harg6 arg7 harg7 arg8 harg8 hc0 x2 k0_t1_loop.trips le_rfl).trans (congrArg (maxAcc x2) (show k0_t1_loop.trips = 64 from rfl))
    have h2 := loop2_read c i arg1 harg1 arg2 harg2 arg3 harg3 arg4 harg4 arg5 harg5 arg6 harg6 arg7 harg7 arg8 harg8 hc0 x2 f5
    have h0 : View.readAt (Elt F) arg1.view (Rect.unit (s := S1x1) ![0, 0] S1x1.size inb_S1x1_S1x1_0_0).toLoadRect (harg1.unread x0)
        (Shape.Idx.first numel1_pos) = x0 (ix2 (n0 := 1) (n1 := 1) 0 0) := by
      rw [View.readAt_full, harg1.read_unread]
      exact congrArg x0 (by decide)
    isplitl [H4]
    · iexists _; isplitr; swap; · iexact H4
      ipureintro
      sl_unfold_words
      rw [h1]
      refine (View.read_writes_full _ _ _ _ _).trans ?_
      refine congr (congr (congr (congrArg k0_pay4 ?_) ?_) ?_) ?_
      · exact (View.readAt_full _ _ _).trans (harg2.read_unread _)
      · exact (View.readAt_full _ _ _).trans h2
      · exact (View.readAt_full _ _ _).trans (harg4.read_unread _)
      · refine (View.readCov_full _ _ _ _ _).trans ?_
        exact congrArg (factorOf (maxAcc x2 64)) h0
    isplitl [H5]
    · iexists _; isplitr; swap; · iexact H5
      ipureintro
      sl_unfold_words
      rw [h1]
      exact h2
    isplitl [H6]
    · iexists _; isplitr; swap; · iexact H6
      ipureintro
      sl_unfold_words
      rw [h1]
      exact View.read_writes_full _ _ _ _ _
    iexists _; isplitr; swap; · iexact HS0
    ipureintro
    sl_unfold_words
    rw [h1]
    refine (View.read_writes_full _ _ _ _ _).trans ?_
    exact congrArg (factorOf (maxAcc x2 64)) h0

end Cert.KernelIdeal.Run

end
-- ==== Proof.RunRest.lean ====
/- The kernel's body at a later grid point: it multiplies one more tile by the codes that the first point left. -/
module

public import proofs.«01_k».proof.Proof.LoopValues
public import Idealize.ShloMosaic.Lib.VecWindow

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At a later grid point, on whole buffers with the inputs at `x0`, …, `x3`, the codes' buffer at `x5`, the scale's at `x6`
    and the scratch at `xs`, the body writes one tile and leaves the rest as it was. -/
theorem runRest (c : Dev nD) (i : grid0.Coords) (arg1 : Memref sig .tc .smem S1x1 .f32) (harg1 : arg1.IsWhole) (arg2 : Memref sig .tc .vmem S4096x512 .fp8e4m3) (harg2 : arg2.IsWhole) (arg3 : Memref sig .tc .vmem S4096x1792 .bf16) (harg3 : arg3.IsWhole) (arg4 : Memref sig .tc .vmem S512x1792 .f32) (harg4 : arg4.IsWhole) (arg5 : Memref sig .tc .vmem S512x1792 .f32) (harg5 : arg5.IsWhole) (arg6 : Memref sig .tc .vmem S4096x1792 .fp8e5m2) (harg6 : arg6.IsWhole) (arg7 : Memref sig .tc .vmem S1x1 .f32) (harg7 : arg7.IsWhole) (arg8 : Memref sig .tc .vmem S1x1 .f32) (harg8 : arg8.IsWhole) (hc0 : ¬ cond0_0 i)
    (x0 : Vec F S1x1 .f32) (x1 : Vec F S4096x512 .fp8e4m3) (x2 : Vec F S4096x1792 .bf16) (x3 : Vec F S512x1792 .f32) (x5 : Vec F S4096x1792 .fp8e5m2) (x6 : Vec F S1x1 .f32) (xs : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6 ∗ owns (c : Thread nD τ) arg8 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay4 x1 x5 x3 xs) ∗ owns (c : Thread nD τ) arg6 fullShare x5 ∗ owns (c : Thread nD τ) arg7 fullShare x6 ∗ owns (c : Thread nD τ) arg8 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs, HS0⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_full _ _ _ _ _).trans ?_
      refine congr (congr (congr (congrArg k0_pay4 ?_) ?_) ?_) ?_
      · exact (View.readAt_full _ _ _).trans (harg2.read_unread _)
      · exact (View.readAt_full _ _ _).trans (harg6.read_unread _)
      · exact (View.readAt_full _ _ _).trans (harg4.read_unread _)
      · exact (View.readAt_full _ _ _).trans (harg8.read_unread _)
    isplitl [H5]
    · iexists _; isplitr; · ipureintro; exact harg6.read_unread _
      iexact H5
    isplitl [H6]
    · iexists _; isplitr; · ipureintro; exact harg7.read_unread _
      iexact H6
    iexists _; isplitr; · ipureintro; exact harg8.read_unread _
    iexact HS0

end Cert.KernelIdeal.Run

end
-- ==== Proof.Data.lean ====
/- What every buffer of the kernel holds at every grid point, and that the body keeps it so: the first point leaves the codes,
   the scale and the rescaling factor, every point leaves its own tile, and the later points find the first point's results
   where it left them. -/
module

public import proofs.«01_k».proof.Proof.RunFirst
public import proofs.«01_k».proof.Proof.RunRest
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, by rw [show cfg0.N = 7 from N_0]; decide⟩

/-- The inputs' scale and the gradient, as the kernel's windows on them read them. -/
def sIn (c : Dev nD) : Vec F S1x1 .f32 := iblk m c 0 t0
def yIn (c : Dev nD) : Vec F S4096x1792 .bf16 := iblk m c 2 t0

/-- What the scratch holds before point `n`: anything before the first point, then the rescaling factor; beside it the
    generator register. -/
def inv (c : Dev nD) : (n : ℕ) → n ≤ cfg0.N → sProp 𝕄
  | 0, _ => Pipeline.ΦA spec0 c
  | _ + 1, _ => iprop(owns (c : Thread nD τ) scM0_0 fullShare (factor (sIn m c) (yIn m c)) ∗ (∃ r, prngReg c r))

/-- The proof data of the pipeline on core `c`: the arrays as the region finds them; after the body at point `t` each input's
    buffer at its block, the tile's at the tile of that point, the codes' and the scale's at the codes and the scale of the
    gradient. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tile (sIn m c) (iblk m c 1 t) (yIn m c) (iblk m c 3 t)
    | ⟨5, _⟩ => codes (yIn m c)
    | ⟨6, _⟩ => dyScale (yIn m c)
  Φ t := inv m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = tile (sIn m c) (iblk m c 1 t) (yIn m c) (iblk m c 3 t) := by dsimp only [dats]
theorem after0_5 (c : Dev nD) (t : Fin cfg0.N) : (dats m 0 c).after 5 t = codes (yIn m c) := by dsimp only [dats]
theorem after0_6 (c : Dev nD) (t : Fin cfg0.N) : (dats m 0 c).after 6 t = dyScale (yIn m c) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The codes' and the scale's windows are in use at the first point and idle at the others. -/
theorem idle5_first (t : Fin cfg0.N) (h : t.val % 7 = 0) : cfg0.idle 5 (grid0.coords t) = false := by
  have := (hcond0_0 t).mpr h
  show (!(k0_cond1 (grid0.coords t) == 1#1)) = false
  rw [this]; rfl
theorem idle5_rest (t : Fin cfg0.N) (h : ¬ t.val % 7 = 0) : cfg0.idle 5 (grid0.coords t) = true := by
  have h' : ¬ k0_cond1 (grid0.coords t) = 1#1 := fun e => h ((hcond0_0 t).mp e)
  show (!(k0_cond1 (grid0.coords t) == 1#1)) = true
  rw [beq_eq_false_iff_ne.mpr h']; rfl
theorem idle6_first (t : Fin cfg0.N) (h : t.val % 7 = 0) : cfg0.idle 6 (grid0.coords t) = false := idle5_first t h
theorem idle6_rest (t : Fin cfg0.N) (h : ¬ t.val % 7 = 0) : cfg0.idle 6 (grid0.coords t) = true := idle5_rest t h

/-- Neither is written back before the last point. -/
theorem flush5_false (t : Fin cfg0.N) (h : t.val % 7 ≠ 6) : (cfg0.win 5).flush t = false :=
  Bool.eq_false_iff.mpr fun e => h ((flush0_5 t).mp e)
theorem flush6_false (t : Fin cfg0.N) (h : t.val % 7 ≠ 6) : (cfg0.win 6).flush t = false :=
  Bool.eq_false_iff.mpr fun e => h ((flush0_6 t).mp e)

/-- After the first point the codes' buffer is found holding the codes, -/
theorem before0_5 (c : Dev nD) (d) : ∀ (n : ℕ) (h : n + 1 < cfg0.N), (dats m 0 c).before 5 ⟨n + 1, h⟩ d = codes (yIn m c)
  | 0, h => by
    rw [Dat.before_of_pos _ 5 _ (Nat.succ_ne_zero _) rfl, flush5_false _ (by show 0 % 7 ≠ 6; decide), if_neg Bool.false_ne_true]
    unfold Dat.left
    rw [idle5_first _ (by show 0 % 7 = 0; decide)]
    exact after0_5 m c _
  | n + 1, h => by
    have hN : cfg0.N = 7 := N_0
    rw [Dat.before_of_pos _ 5 _ (Nat.succ_ne_zero _) rfl,
      flush5_false _ (by show (n + 1 + 1 - 1) % 7 ≠ 6; omega), if_neg Bool.false_ne_true]
    unfold Dat.left
    rw [idle5_rest _ (by show ¬ (n + 1 + 1 - 1) % 7 = 0; omega)]
    exact before0_5 c d n (by omega)

/-- and the scale's the scale. -/
theorem before0_6 (c : Dev nD) (d) : ∀ (n : ℕ) (h : n + 1 < cfg0.N), (dats m 0 c).before 6 ⟨n + 1, h⟩ d = dyScale (yIn m c)
  | 0, h => by
    rw [Dat.before_of_pos _ 6 _ (Nat.succ_ne_zero _) rfl, flush6_false _ (by show 0 % 7 ≠ 6; decide), if_neg Bool.false_ne_true]
    unfold Dat.left
    rw [idle6_first _ (by show 0 % 7 = 0; decide)]
    exact after0_6 m c _
  | n + 1, h => by
    have hN : cfg0.N = 7 := N_0
    rw [Dat.before_of_pos _ 6 _ (Nat.succ_ne_zero _) rfl,
      flush6_false _ (by show (n + 1 + 1 - 1) % 7 ≠ 6; omega), if_neg Bool.false_ne_true]
    unfold Dat.left
    rw [idle6_rest _ (by show ¬ (n + 1 + 1 - 1) % 7 = 0; omega)]
    exact before0_6 c d n (by omega)

/-- Holding the codes is what the body owes of the codes' buffer at any point, -/
theorem leaves5 (c : Dev nD) (t : Fin cfg0.N) :
    owns (c : Thread nD τ) (ms0_5 t) fullShare (codes (yIn m c)) ⊢ ((dats m 0 c).leavesExact 5 t : sProp 𝕄) := by
  by_cases h0 : t.val % 7 = 0
  · unfold Dat.leavesExact; rw [idle5_first t h0]; dsimp only; rw [after0_5]
  · by_cases h6 : t.val % 7 = 6
    · unfold Dat.leavesExact; rw [idle5_rest t h0, (flush0_5 t).mpr h6]; dsimp only; rw [after0_5]
    · rw [Dat.leavesExact_idle _ 5 t (idle5_rest t h0) (flush5_false t h6)]
      obtain ⟨n, hn⟩ := t
      obtain ⟨k, rfl⟩ : ∃ k, n = k + 1 := ⟨n - 1, by dsimp only at h0; omega⟩
      iintro H
      iexists (codes (yIn m c))
      rw [before0_5]
      iexact H

/-- and the scale of the scale's buffer. -/
theorem leaves6 (c : Dev nD) (t : Fin cfg0.N) :
    owns (c : Thread nD τ) (ms0_6 t) fullShare (dyScale (yIn m c)) ⊢ ((dats m 0 c).leavesExact 6 t : sProp 𝕄) := by
  by_cases h0 : t.val % 7 = 0
  · unfold Dat.leavesExact; rw [idle6_first t h0]; dsimp only; rw [after0_6]
  · by_cases h6 : t.val % 7 = 6
    · unfold Dat.leavesExact; rw [idle6_rest t h0, (flush0_6 t).mpr h6]; dsimp only; rw [after0_6]
    · rw [Dat.leavesExact_idle _ 6 t (idle6_rest t h0) (flush6_false t h6)]
      obtain ⟨n, hn⟩ := t
      obtain ⟨k, rfl⟩ : ∃ k, n = k + 1 := ⟨n - 1, by dsimp only at h0; omega⟩
      iintro H
      iexists (dyScale (yIn m c))
      rw [before0_6]
      iexact H

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The invariant after a point: the scratch at the rescaling factor. -/
theorem inv_succ (c : Dev nD) (t : Fin cfg0.N) : (dats m 0 c).Φ t.succ
    = iprop(owns (c : Thread nD τ) scM0_0 fullShare (factor (sIn m c) (yIn m c)) ∗ (∃ r, prngReg c r)) := by
  dsimp only [dats]; rfl

/-- The invariant before a point. -/
theorem inv_castSucc (c : Dev nD) (t : Fin cfg0.N) : (dats m 0 c).Φ t.castSucc = inv m c t.val (Nat.le_of_lt t.isLt) := by
  dsimp only [dats]; exact Pipeline.Dat.Φ_castSucc (inv m c) t

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl, inv_succ, inv_castSucc]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [show cfg0.idle 4 (grid0.coords t) = false from rfl], after0_4]
  have hN : t.val < 7 := lt_of_lt_of_eq t.isLt (show cfg0.N = 7 from N_0)
  by_cases h0 : t.val % 7 = 0
  · obtain rfl : t = t0 := Fin.ext (by show t.val = 0; omega)
    rw [show inv m c (t0 : Fin cfg0.N).val (Nat.le_of_lt t0.isLt) = Pipeline.ΦA spec0 c from rfl, PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t0) _ _ _ _ _ _ _ _ _ _ _ _ _ _ _ _ ((hcond0_0 t0).mpr h0) (iblk m c 0 t0) (iblk m c 1 t0) (iblk m c 2 t0) (iblk m c 3 t0)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves5 m c t0); iexact H5
    iapply (leaves6 m c t0); iexact H6
  · have hinv : inv m c t.val (Nat.le_of_lt t.isLt)
        = iprop(owns (c : Thread nD τ) scM0_0 fullShare (factor (sIn m c) (yIn m c)) ∗ (∃ r, prngReg c r)) := by
      obtain ⟨n, hn⟩ := t
      obtain ⟨k, rfl⟩ : ∃ k, n = k + 1 := ⟨n - 1, by dsimp only at h0; omega⟩
      rfl
    have hb5 : ∀ d, (dats m 0 c).before 5 t d = codes (yIn m c) := fun d => by
      obtain ⟨n, hn⟩ := t
      obtain ⟨k, rfl⟩ : ∃ k, n = k + 1 := ⟨n - 1, by dsimp only at h0; omega⟩
      exact before0_5 m c d k hn
    have hb6 : ∀ d, (dats m 0 c).before 6 t d = dyScale (yIn m c) := fun d => by
      obtain ⟨n, hn⟩ := t
      obtain ⟨k, rfl⟩ : ∃ k, n = k + 1 := ⟨n - 1, by dsimp only at h0; omega⟩
      exact before0_6 m c d k hn
    rw [hinv]
    simp only [hb5, hb6]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((runRest c (grid0.coords t) _ _ _ _ _ _ _ _ _ _ _ _ _ _ _ _ (fun h => h0 ((hcond0_0 t).mp h)) (iblk m c 0 t) (iblk m c 1 t) (iblk m c 2 t) (iblk m c 3 t)
      (codes (yIn m c)) (dyScale (yIn m c)) (factor (sIn m c) (yIn m c))) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves5 m c t); iexact H5
    iapply (leaves6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- THE LAUNCH: every run ends with each array at what its windows' write-backs left and the host's last lines computed from
    that, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => .rfl)
    (hout := fun c => by
      rw [show (dats m 0 c).Φ (Fin.last (cfgs 0).N)
          = iprop(owns (c : Thread nD τ) scM0_0 fullShare (factor (sIn m c) (yIn m c)) ∗ (∃ r, prngReg c r)) from
        inv_succ m c ⟨6, by rw [show cfg0.N = 7 from N_0]; decide⟩, PhiA0_eq]
      iintro ⟨H, Hg⟩
      isplitl [H]
      · iexists _; iexact H
      iexact Hg)

end Cert.KernelIdeal.Run

end
-- ==== Proof.Results.lean ====
/- What the kernel's result arrays hold after the run: the tiles of the weight gradient side by side, the codes of the
   gradient, and the gradient's scale. -/
module

public import proofs.«01_k».proof.Proof.Data
public import Idealize.ShloMosaic.Lib.Pipeline.Value

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Columns `512 k` to `512 k + 511` of the inputs' codes. -/
def xTile (x : Vec F S4096x3584 .fp8e4m3) (k : ℕ) : Vec F S4096x512 .fp8e4m3 :=
  fun j => x (ix2 (j 0) ⟨(512 * k + (j 1).val) % 3584, Nat.mod_lt _ (by decide)⟩)

/-- Rows `512 k` to `512 k + 511` of the accumulated weight gradient. -/
def accTile (a : Vec F S3584x1792 .f32) (k : ℕ) : Vec F S512x1792 .f32 :=
  fun j => a (ix2 ⟨(512 * k + (j 0).val) % 3584, Nat.mod_lt _ (by decide)⟩ (j 1))

/-- The weight gradient, tile by tile: row `i` is row `i % 512` of tile `i / 512`. -/
def tiles (s : Vec F S1x1 .f32) (x : Vec F S4096x3584 .fp8e4m3) (y : Vec F S4096x1792 .bf16) (a : Vec F S3584x1792 .f32) :
    Vec F S3584x1792 .f32 :=
  fun i => tile s (xTile x ((i 0).val / 512)) y (accTile a ((i 0).val / 512))
    (ix2 ⟨(i 0).val % 512, Nat.mod_lt _ (by decide)⟩ (i 1))

/-- The block indices of the windows. -/
theorem index0 (t : Fin cfg0.N) : win0_0.index t 0 = 0 ∧ win0_0.index t 1 = 0 := by
  rcases fin_N0 t with rfl | rfl | rfl | rfl | rfl | rfl | rfl <;> decide
theorem index1 (t : Fin cfg0.N) : win0_1.index t 0 = 0 ∧ win0_1.index t 1 = t.val := by
  rcases fin_N0 t with rfl | rfl | rfl | rfl | rfl | rfl | rfl <;> decide
theorem index2 (t : Fin cfg0.N) : win0_2.index t 0 = 0 ∧ win0_2.index t 1 = 0 := by
  rcases fin_N0 t with rfl | rfl | rfl | rfl | rfl | rfl | rfl <;> decide
theorem index3 (t : Fin cfg0.N) : win0_3.index t 0 = t.val ∧ win0_3.index t 1 = 0 := by
  rcases fin_N0 t with rfl | rfl | rfl | rfl | rfl | rfl | rfl <;> decide
theorem index4 (t : Fin cfg0.N) : win0_4.index t 0 = t.val ∧ win0_4.index t 1 = 0 := by
  rcases fin_N0 t with rfl | rfl | rfl | rfl | rfl | rfl | rfl <;> decide
theorem index5 (t : Fin cfg0.N) : win0_5.index t 0 = 0 ∧ win0_5.index t 1 = 0 := by
  rcases fin_N0 t with rfl | rfl | rfl | rfl | rfl | rfl | rfl <;> decide
theorem index6 (t : Fin cfg0.N) : win0_6.index t 0 = 0 ∧ win0_6.index t 1 = 0 := by
  rcases fin_N0 t with rfl | rfl | rfl | rfl | rfl | rfl | rfl <;> decide

/-- There are seven grid points. -/
theorem val_lt (t : Fin cfg0.N) : t.val < 7 := Nat.lt_of_lt_of_eq t.isLt N_0

/-- The block of the inputs' scale is the whole of its array. -/
theorem sIn_eq (c : Dev nD) : sIn m c = V m c main_v0 := by
  funext j
  unfold sIn iblk
  rw [View.read_apply]
  show V m c main_v0 _ = V m c main_v0 _
  congr 1
  funext a
  apply Fin.ext
  match a with
  | ⟨0, _⟩ => show win0_0.index t0 0 * 1 + 1 * (j 0).val = (j 0).val; rw [(index0 t0).1]; omega
  | ⟨1, _⟩ => show win0_0.index t0 1 * 1 + 1 * (j 1).val = (j 1).val; rw [(index0 t0).2]; omega

/-- The block of the gradient is the whole of its array. -/
theorem yIn_eq (c : Dev nD) : yIn m c = V m c main_v2 := by
  funext j
  unfold yIn iblk
  rw [View.read_apply]
  show V m c main_v2 _ = V m c main_v2 _
  congr 1
  funext a
  apply Fin.ext
  match a with
  | ⟨0, _⟩ => show win0_2.index t0 0 * 4096 + 1 * (j 0).val = (j 0).val; rw [(index2 t0).1]; omega
  | ⟨1, _⟩ => show win0_2.index t0 1 * 1792 + 1 * (j 1).val = (j 1).val; rw [(index2 t0).2]; omega

/-- The block of the inputs' codes at point `t` is tile `t` of their array. -/
theorem iblk1_eq (c : Dev nD) (t : Fin cfg0.N) : (iblk m c 1 t : Vec F S4096x512 .fp8e4m3) = xTile (V m c main_v1) t.val := by
  funext j
  unfold iblk xTile
  rw [View.read_apply]
  show V m c main_v1 _ = V m c main_v1 _
  congr 1
  have ht := val_lt t
  have h1 : (j 1).val < 512 := (j 1).isLt
  funext a
  apply Fin.ext
  match a with
  | ⟨0, _⟩ => show win0_1.index t 0 * 4096 + 1 * (j 0).val = (j 0).val; rw [(index1 t).1]; omega
  | ⟨1, _⟩ => show win0_1.index t 1 * 512 + 1 * (j 1).val = (512 * t.val + (j 1).val) % 3584; rw [(index1 t).2]; omega

/-- The block of the accumulated gradient at point `t` is tile `t` of its array. -/
theorem iblk3_eq (c : Dev nD) (t : Fin cfg0.N) : (iblk m c 3 t : Vec F S512x1792 .f32) = accTile (V m c main_arg3) t.val := by
  funext j
  unfold iblk accTile
  rw [View.read_apply]
  show V m c main_arg3 _ = V m c main_arg3 _
  congr 1
  have ht := val_lt t
  have h0 : (j 0).val < 512 := (j 0).isLt
  funext a
  apply Fin.ext
  match a with
  | ⟨0, _⟩ => show win0_3.index t 0 * 512 + 1 * (j 0).val = (512 * t.val + (j 0).val) % 3584; rw [(index3 t).1]; omega
  | ⟨1, _⟩ => show win0_3.index t 1 * 1792 + 1 * (j 1).val = (j 1).val; rw [(index3 t).2]; omega

/-- The weight gradient the kernel computes, from the arrays its region is entered with. -/
abbrev dw (c : Dev nD) : Vec F S3584x1792 .f32 := tiles (V m c main_v0) (V m c main_v1) (V m c main_v2) (V m c main_arg3)

/-- Row `512 k + r` of the weight gradient is row `r` of tile `k`. -/
theorem tiles_apply (s : Vec F S1x1 .f32) (x : Vec F S4096x3584 .fp8e4m3) (y : Vec F S4096x1792 .bf16) (a : Vec F S3584x1792 .f32)
    (k : ℕ) (j : S512x1792.Idx) (i : S3584x1792.Idx) (h0 : (i 0).val = 512 * k + (j 0).val) (h1 : (i 1).val = (j 1).val) :
    tiles s x y a i = tile s (xTile x k) y (accTile a k) j := by
  have hj : (j 0).val < 512 := (j 0).isLt
  have e1 : (i 0).val / 512 = k := by omega
  have e2 : (ix2 ⟨(i 0).val % 512, Nat.mod_lt _ (by decide)⟩ (i 1) : S512x1792.Idx) = j := by
    funext b
    apply Fin.ext
    match b with
    | ⟨0, _⟩ => show (i 0).val % 512 = (j 0).val; omega
    | ⟨1, _⟩ => exact h1
  unfold tiles
  rw [e1]
  exact congrArg (tile s (xTile x k) y (accTile a k)) e2

/-- Every point writes its tile of the weight gradient back. -/
theorem flushed4_eq (c : Dev nD) (t : Fin cfg0.N) (hf : (cfg0.win 4).flush t = true) :
    (dats m 0 c).flushed 4 t = ((cfg0.win 4).blk t).view.read (Elt F) (dw m c) := by
  show (cfg0.win 4).cut (grid0.coords t) ((dats m 0 c).after 4 t) = _
  rw [after0_4, sIn_eq, yIn_eq, iblk1_eq, iblk3_eq]
  generalize hX : tile (V m c main_v0) (xTile (V m c main_v1) t.val) (V m c main_v2) (accTile (V m c main_arg3) t.val) = X
  have hT : ∀ (j : S512x1792.Idx) (i : S3584x1792.Idx), (i 0).val = 512 * t.val + (j 0).val → (i 1).val = (j 1).val →
      X j = dw m c i := fun j i h0 h1 => by
    rw [← hX]; exact (tiles_apply _ _ _ _ t.val j i h0 h1).symm
  generalize dw m c = D at hT ⊢
  funext j
  rw [View.read_apply]
  refine hT j _ ?_ ?_
  · show win0_4.index t 0 * 512 + 1 * (j 0).val = 512 * t.val + (j 0).val
    rw [(index4 t).1]; omega
  · show win0_4.index t 1 * 1792 + 1 * (j 1).val = (j 1).val
    rw [(index4 t).2]; omega

/-- So the first result array ends as the weight gradient: the seven tiles cover it. -/
theorem final_dw (c : Dev nD) : (dats m 0 c).arrAt 4 cfg0.N = dw m c :=
  (dats m 0 c).arrAt_eq_of_cover 4 (dw m c) (flushed4_eq m c) fun i => by
    have h0 : (i 0 : Nat) < 3584 := (i 0).isLt
    have h1 : (i 1 : Nat) < 1792 := (i 1).isLt
    have hN : cfg0.N = 7 := N_0
    obtain ⟨t, ht⟩ : ∃ t : Fin cfg0.N, t.val = (i 0 : Nat) / 512 := ⟨⟨(i 0 : Nat) / 512, by omega⟩, rfl⟩
    refine ⟨t, flush0_4 t, ?_⟩
    show i ∈ ((View.whole main_v3_0).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(index4 t).1]; omega
    | ⟨1, _⟩ =>
      show win0_4.index t 1 * 1792 ≤ (i 1 : Nat) ∧ (i 1 : Nat) < win0_4.index t 1 * 1792 + 1792
      rw [(index4 t).2]; omega

/-- The last point writes the codes back, as one block. -/
theorem flushed5_eq (c : Dev nD) (t : Fin cfg0.N) (hf : (cfg0.win 5).flush t = true) :
    (dats m 0 c).flushed 5 t = ((cfg0.win 5).blk t).view.read (Elt F) (codes (V m c main_v2)) := by
  show (cfg0.win 5).cut (grid0.coords t) ((dats m 0 c).after 5 t) = _
  rw [after0_5, yIn_eq]
  have hz' : (fun a => win0_5.index t a * main_v3_1.ty.shape.size a) = fun _ => 0 := by
    funext a
    match a with
    | ⟨0, _⟩ => show win0_5.index t 0 * _ = 0; rw [(index5 t).1, Nat.zero_mul]
    | ⟨1, _⟩ => show win0_5.index t 1 * _ = 0; rw [(index5 t).2, Nat.zero_mul]
  exact (Memref.read_access_unit_zero (Elt F) main_v3_1 hz' (fun a => by rw [congrFun hz' a]; simp) (codes (V m c main_v2))).symm

/-- The last grid point. -/
abbrev t6 : Fin cfg0.N := ⟨6, by rw [show cfg0.N = 7 from N_0]; decide⟩

/-- So the second result array ends as the codes of the gradient. -/
theorem final_codes (c : Dev nD) : (dats m 0 c).arrAt 5 cfg0.N = codes (V m c main_v2) :=
  (dats m 0 c).arrAt_eq_of_cover 5 (codes (V m c main_v2)) (flushed5_eq m c) fun i => by
    have h0 : (i 0 : Nat) < 4096 := (i 0).isLt
    have h1 : (i 1 : Nat) < 1792 := (i 1).isLt
    refine ⟨t6, (flush0_5 t6).mpr rfl, ?_⟩
    show i ∈ ((View.whole main_v3_1).slice (win0_5.rect t6)).set
    rw [View.set_slice_whole, Rect.mem_set_unit]
    intro a
    match a with
    | ⟨0, _⟩ =>
      show win0_5.index t6 0 * 4096 ≤ (i 0 : Nat) ∧ (i 0 : Nat) < win0_5.index t6 0 * 4096 + 4096
      rw [(index5 t6).1]; omega
    | ⟨1, _⟩ =>
      show win0_5.index t6 1 * 1792 ≤ (i 1 : Nat) ∧ (i 1 : Nat) < win0_5.index t6 1 * 1792 + 1792
      rw [(index5 t6).2]; omega

/-- The last point writes the gradient's scale back. -/
theorem flushed6_eq (c : Dev nD) (t : Fin cfg0.N) (hf : (cfg0.win 6).flush t = true) :
    (dats m 0 c).flushed 6 t = ((cfg0.win 6).blk t).view.read (Elt F) (dyScale (V m c main_v2)) := by
  show (cfg0.win 6).cut (grid0.coords t) ((dats m 0 c).after 6 t) = _
  rw [after0_6, yIn_eq]
  have hz' : (fun a => win0_6.index t a * main_v3_2.ty.shape.size a) = fun _ => 0 := by
    funext a
    match a with
    | ⟨0, _⟩ => show win0_6.index t 0 * _ = 0; rw [(index6 t).1, Nat.zero_mul]
    | ⟨1, _⟩ => show win0_6.index t 1 * _ = 0; rw [(index6 t).2, Nat.zero_mul]
  exact (Memref.read_access_unit_zero (Elt F) main_v3_2 hz' (fun a => by rw [congrFun hz' a]; simp) (dyScale (V m c main_v2))).symm

/-- So the third result array ends as the gradient's scale. -/
theorem final_scale (c : Dev nD) : (dats m 0 c).arrAt 6 cfg0.N = dyScale (V m c main_v2) :=
  (dats m 0 c).arrAt_eq_of_cover 6 (dyScale (V m c main_v2)) (flushed6_eq m c) fun i => by
    have h0 : (i 0 : Nat) < 1 := (i 0).isLt
    have h1 : (i 1 : Nat) < 1 := (i 1).isLt
    refine ⟨t6, (flush0_6 t6).mpr rfl, ?_⟩
    show i ∈ ((View.whole main_v3_2).slice (win0_6.rect t6)).set
    rw [View.set_slice_whole, Rect.mem_set_unit]
    intro a
    match a with
    | ⟨0, _⟩ =>
      show win0_6.index t6 0 * 1 ≤ (i 0 : Nat) ∧ (i 0 : Nat) < win0_6.index t6 0 * 1 + 1
      rw [(index6 t6).1]; omega
    | ⟨1, _⟩ =>
      show win0_6.index t6 1 * 1 ≤ (i 1 : Nat) ∧ (i 1 : Nat) < win0_6.index t6 1 * 1 + 1
      rw [(index6 t6).2]; omega

end Cert.KernelIdeal.Run

end
-- ==== Proof.Run.lean ====
/- The kernel's run read: its three results as terms over its arguments, the arguments unchanged, the semaphores at zero. -/
module

public import proofs.«01_k».proof.Proof.Results
public import Idealize.ShloMosaic.Lib.StableHlo.RunRead

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays the region is entered with: the arguments, reshaped. -/
theorem V_v0 (c : Dev nD) : (V m c main_v0 : Vec F S1x1 .f32)
    = shapeCast S1x1 (m ((c : Thread nD τ).loc main_arg1)) shapeCasts_S_S1x1 := by
  unfold V
  after_reads_simp
  rfl
theorem V_v1 (c : Dev nD) : (V m c main_v1 : Vec F S4096x3584 .fp8e4m3)
    = shapeCast S4096x3584 (m ((c : Thread nD τ).loc main_arg0)) shapeCasts_S2x2048x3584_S4096x3584 := by
  unfold V
  after_reads_simp
  rfl
theorem V_v2 (c : Dev nD) : (V m c main_v2 : Vec F S4096x1792 .bf16)
    = shapeCast S4096x1792 (m ((c : Thread nD τ).loc main_arg2)) shapeCasts_S2x2048x1792_S4096x1792 := by
  unfold V
  after_reads_simp
  rfl

/-- The gradient as 4096 rows, and the three results, from the arguments. -/
def rows (c : Dev nD) : Vec F S4096x1792 .bf16 :=
  shapeCast S4096x1792 (m ((c : Thread nD τ).loc main_arg2)) shapeCasts_S2x2048x1792_S4096x1792
def result0 (c : Dev nD) : Vec F S3584x1792 .f32 :=
  tiles (shapeCast S1x1 (m ((c : Thread nD τ).loc main_arg1)) shapeCasts_S_S1x1)
    (shapeCast S4096x3584 (m ((c : Thread nD τ).loc main_arg0)) shapeCasts_S2x2048x3584_S4096x3584)
    (rows m c) (m ((c : Thread nD τ).loc main_arg3))
def result1 (c : Dev nD) : Vec F S2x2048x1792 .fp8e5m2 :=
  shapeCast S2x2048x1792 (codes (rows m c)) shapeCasts_S4096x1792_S2x2048x1792
def result2 (c : Dev nD) : Vec F S_ .f32 :=
  shapeCast S_ (dyScale (rows m c)) shapeCasts_S1x1_S_

/-- After the region the two reshapes read the codes' and the scale's arrays. -/
theorem tail_v4 (c : Dev nD) : Pipeline.afterTail₀ cfgs (dats m) 0 (V0 m) [hostOps1] c main_v4 = result1 m c := by
  have e := Pipeline.withArrays_arr spec0 launch0.win.arr_inj c (V0 m c) (fun w => (dats m 0 c).arrAt w cfg0.N) 5
  unfold Pipeline.afterTail₀
  after_reads_simp
  unfold result1 rows
  rw [← V_v2, ← final_codes, ← e]
  rfl
theorem tail_v5 (c : Dev nD) : Pipeline.afterTail₀ cfgs (dats m) 0 (V0 m) [hostOps1] c main_v5 = result2 m c := by
  have e := Pipeline.withArrays_arr spec0 launch0.win.arr_inj c (V0 m c) (fun w => (dats m 0 c).arrAt w cfg0.N) 6
  unfold Pipeline.afterTail₀
  after_reads_simp
  unfold result2 rows
  rw [← V_v2, ← final_scale, ← e]
  rfl

/-- The run: the three results, and the arguments unchanged. -/
theorem run : θ_run defs (onTc (τ := τ) (main (F := F))) ⟨m, fun _ => 0, ρ⟩ fun r => ∀ c : Dev nD,
    r.2.mem ((c.tc : Thread nD τ).loc main_v3_0) = result0 m c
    ∧ r.2.mem ((c.tc : Thread nD τ).loc main_v4) = result1 m c
    ∧ r.2.mem ((c.tc : Thread nD τ).loc main_v5) = result2 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => by
    have h := h.1
    refine ⟨((h c).1 4).trans ((final_dw m c).trans ?_),
      ((h c).2 main_v4 (Pipeline.mem_restRefs_of main_v4 (by decide) (by decide))).trans (tail_v4 m c),
      ((h c).2 main_v5 (Pipeline.mem_restRefs_of main_v5 (by decide) (by decide))).trans (tail_v5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩
    unfold dw result0 rows
    rw [V_v0, V_v1, V_v2, V_main_arg3]) (run_main_quiescent m ρ)

/-- The frame: the arguments unchanged and every semaphore back at zero. -/
theorem frame : θ_run defs (onTc (τ := τ) (main (F := F))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
    ∧ r.2.sem = fun _ => 0 :=
  (θ_run defs _ _).mono (fun r h => ⟨fun c => by
    have hs := h.1
    exact ⟨((hs c).2 main_arg0 (Pipeline.mem_restRefs_of main_arg0 (by decide) (by decide))).trans (W_main_arg0 m (dats m) c),
      ((hs c).2 main_arg1 (Pipeline.mem_restRefs_of main_arg1 (by decide) (by decide))).trans (W_main_arg1 m (dats m) c),
      ((hs c).2 main_arg2 (Pipeline.mem_restRefs_of main_arg2 (by decide) (by decide))).trans (W_main_arg2 m (dats m) c),
      ((hs c).1 3).trans (((dats m 0 c).arrAt_in 3 rfl _).trans ((A_eq m c 3).trans (V_main_arg3 m c)))⟩, h.2⟩)
    (run_main_quiescent m ρ)

end Cert.KernelIdeal.Run

end
-- ==== Proof.KernelFrame.lean ====
/- The kernel's program at its own formats is the program whose run is read above, under another name: so its frame is
   that program's frame. -/
module

public import proofs.«01_k».proof.Proof.Run
public import proofs.«01_k».proof.Proof.Gen.Kernel

@[expose] public section

set_option maxRecDepth 16384

noncomputable section

namespace Cert.Kernel.Run

open Cert.Kernel.Gen
open Idealize.ShloMosaic Idealize.ShloMosaic.TcCoe Idealize.SL.Sem

variable {F : FTy → Type} [FloatOps F]

/-- The procedures of the two programs are the same, and so are the programs' definitions. -/
theorem defs₀_eq : defs₀ (F := F) = Cert.KernelIdeal.defs₀ (F := F) := by
  unfold defs₀ Cert.KernelIdeal.defs₀
  congr 1
  funext p x
  match p, x with
  | 0, (t, s) => rfl

theorem defs_eq : defs (F := F) = Cert.KernelIdeal.defs (F := F) := by
  show Pipeline.defs pcfgs defs₀ = _
  rw [defs₀_eq]
  rfl

/-- The run ends with the arguments as they were and every semaphore at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  by
    rw [defs_eq]
    exact Cert.KernelIdeal.Run.frame m ρ

end Cert.Kernel.Run

end
-- ==== Proof.RefRun.lean ====
/- The reference's run read: its three results as terms over its arguments. -/
module

public import proofs.«01_k».proof.Proof.Gen.ReferenceIdeal.Value
public import Idealize.ShloMosaic.Lib.StableHlo.RunRead
public import Idealize.ShloMosaic.Lib.Pipeline.Value
public import Idealize.ShloMosaic.Lib.Claim

@[expose] public section

set_option maxRecDepth 16384

noncomputable section

namespace Cert.ReferenceIdeal.Run

open Cert.ReferenceIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

/-- The largest absolute value of the gradient. -/
def amax (y : Vec F S2x2048x1792 .bf16) : FVec F S_ .f32 :=
  Host.reduce FloatOps.maximumf (Host.absf (extf .f32 y bitsLt_bf16_f32)) (constant S_ .f32 0xFF800000#32)
    reducesTo_S2x2048x1792_S_d0_1_2 h_S_

/-- The exponent of the quantiser's scale from the largest absolute value `a`, as a float: zero for an array of zeros,
    else one more than the floor of the binary logarithm of `a / 57344`. -/
def expoAt (a : FVec F S_ .f32) : FVec F S_ .f32 :=
  select (cmpf .oeq a (constant S_ .f32 0x00000000#32)) (constant S_ .f32 0x00000000#32)
    (addf (Host.floor (Host.divf (Host.log (mulf a (constant S_ .f32 0x37924925#32)))
      (Host.log (constant S_ .f32 0x40000000#32)))) (constant S_ .f32 0x3F800000#32))

/-- The scale and its inverse, from the largest absolute value. -/
def scaleAt (a : FVec F S_ .f32) : FVec F S_ .f32 := Host.powf (constant S_ .f32 0x40000000#32) (expoAt a)
def invScaleAt (a : FVec F S_ .f32) : FVec F S_ .f32 := Host.powf (constant S_ .f32 0x40000000#32) (Host.negf (expoAt a))

/-- The scale of the gradient `y` and its inverse. -/
def scale (y : Vec F S2x2048x1792 .bf16) : FVec F S_ .f32 := scaleAt (amax y)
def invScale (y : Vec F S2x2048x1792 .bf16) : FVec F S_ .f32 := invScaleAt (amax y)

/-- The host's values at the region's entry. -/
theorem V_v11 (c : Dev nD) : (V m c main_v11 : Vec F S_ .f32) = scale (m ((c : Thread nD τ).loc main_arg2)) := by
  unfold V
  after_reads_simp
  rfl
theorem V_v14 (c : Dev nD) : (V m c main_v14 : Vec F S1x1 .f32)
    = shapeCast S1x1 (invScale (m ((c : Thread nD τ).loc main_arg2))) shapeCasts_S_S1x1 := by
  unfold V
  after_reads_simp
  rfl
theorem V_v16 (c : Dev nD) : (V m c main_v16 : Vec F S1x1 .f32)
    = shapeCast S1x1 (mulf (m ((c : Thread nD τ).loc main_arg1)) (scale (m ((c : Thread nD τ).loc main_arg2)))) shapeCasts_S_S1x1 := by
  unfold V
  after_reads_simp
  rfl

/-- The results of the region over the contents of its input arrays. -/
theorem out5_eq (x0 : Vec F S2x2048x3584 .fp8e4m3) (x1 : Vec F S2x2048x1792 .bf16) (x2 x3 : Vec F S1x1 .f32)
    (x4 : Vec F S3584x1792 .f32) : out0_5 x0 x1 x2 x3 x4 = k0_pay2 x1 x2 x0 x4 x3 := by
  have z2 : (![0, 0] : Fin 2 → Nat) = fun _ => 0 := by funext a; fin_cases a <;> rfl
  have z3 : (![0, 0, 0] : Fin 3 → Nat) = fun _ => 0 := by funext a; fin_cases a <;> rfl
  unfold out0_5
  rw [View.canon_unit_zero z2]
  simp only [r0_0, r0_1, r0_2, r0_3]
  rw [View.ld_unit_zero (S := S2x2048x1792) z3, View.ld_unit_zero (S := S1x1) z2, View.ld_unit_zero (S := S2x2048x3584) z3,
    View.ld_unit_zero (S := S3584x1792) z2, View.ld_unit_zero (S := S1x1) z2]
theorem out6_eq (x0 : Vec F S2x2048x3584 .fp8e4m3) (x1 : Vec F S2x2048x1792 .bf16) (x2 x3 : Vec F S1x1 .f32)
    (x4 : Vec F S3584x1792 .f32) : out0_6 x0 x1 x2 x3 x4 = k0_pay1 x1 x2 := by
  have z2 : (![0, 0] : Fin 2 → Nat) = fun _ => 0 := by funext a; fin_cases a <;> rfl
  have z3 : (![0, 0, 0] : Fin 3 → Nat) = fun _ => 0 := by funext a; fin_cases a <;> rfl
  unfold out0_6
  rw [View.canon_unit_zero z3]
  simp only [r0_0, r0_1]
  rw [View.ld_unit_zero (S := S2x2048x1792) z3, View.ld_unit_zero (S := S1x1) z2]

/-- Each input window's block at the one grid point is its whole array. -/
theorem iblk0_eq (c : Dev nD) : iblk m c 0 t0_0 = V m c main_arg0 := by
  have hz' : (fun a => win0_0.index t0_0 a * main_arg0.ty.shape.size a) = fun _ => 0 := by
    funext a; fin_cases a <;> exact Nat.zero_mul _
  exact Memref.read_access_unit_zero (Elt F) main_arg0 hz' (fun a => by rw [congrFun hz' a]; simp) (V m c main_arg0)
theorem iblk1_eq (c : Dev nD) : iblk m c 1 t0_0 = V m c main_arg2 := by
  have hz' : (fun a => win0_1.index t0_0 a * main_arg2.ty.shape.size a) = fun _ => 0 := by
    funext a; fin_cases a <;> exact Nat.zero_mul _
  exact Memref.read_access_unit_zero (Elt F) main_arg2 hz' (fun a => by rw [congrFun hz' a]; simp) (V m c main_arg2)
theorem iblk2_eq (c : Dev nD) : iblk m c 2 t0_0 = V m c main_v14 := by
  have hz' : (fun a => win0_2.index t0_0 a * main_v14.ty.shape.size a) = fun _ => 0 := by
    funext a; fin_cases a <;> exact Nat.zero_mul _
  exact Memref.read_access_unit_zero (Elt F) main_v14 hz' (fun a => by rw [congrFun hz' a]; simp) (V m c main_v14)
theorem iblk3_eq (c : Dev nD) : iblk m c 3 t0_0 = V m c main_v16 := by
  have hz' : (fun a => win0_3.index t0_0 a * main_v16.ty.shape.size a) = fun _ => 0 := by
    funext a; fin_cases a <;> exact Nat.zero_mul _
  exact Memref.read_access_unit_zero (Elt F) main_v16 hz' (fun a => by rw [congrFun hz' a]; simp) (V m c main_v16)
theorem iblk4_eq (c : Dev nD) : iblk m c 4 t0_0 = V m c main_arg3 := by
  have hz' : (fun a => win0_4.index t0_0 a * main_arg3.ty.shape.size a) = fun _ => 0 := by
    funext a; fin_cases a <;> exact Nat.zero_mul _
  exact Memref.read_access_unit_zero (Elt F) main_arg3 hz' (fun a => by rw [congrFun hz' a]; simp) (V m c main_arg3)

/-- The three results, from the arguments: the weight gradient, the codes and the scale. -/
def result0 (c : Dev nD) : Vec F S3584x1792 .f32 :=
  k0_pay2 (m ((c : Thread nD τ).loc main_arg2))
    (shapeCast S1x1 (invScale (m ((c : Thread nD τ).loc main_arg2))) shapeCasts_S_S1x1)
    (m ((c : Thread nD τ).loc main_arg0)) (m ((c : Thread nD τ).loc main_arg3))
    (shapeCast S1x1 (mulf (m ((c : Thread nD τ).loc main_arg1)) (scale (m ((c : Thread nD τ).loc main_arg2)))) shapeCasts_S_S1x1)
def result1 (c : Dev nD) : Vec F S2x2048x1792 .fp8e5m2 :=
  k0_pay1 (m ((c : Thread nD τ).loc main_arg2))
    (shapeCast S1x1 (invScale (m ((c : Thread nD τ).loc main_arg2))) shapeCasts_S_S1x1)
def result2 (c : Dev nD) : Vec F S_ .f32 := scale (m ((c : Thread nD τ).loc main_arg2))

theorem flushed5_eq (c : Dev nD) (t : Fin cfg0.N) (hf : (cfg0.win 5).flush t = true) :
    (dats m 0 c).flushed 5 t = ((cfg0.win 5).blk t).view.read (Elt F) (result0 m c) := by
  obtain rfl : t = t0_0 := fin_N0 t
  rw [Value.flushed5, out5_eq, iblk0_eq, iblk1_eq, iblk2_eq, iblk3_eq, iblk4_eq, V_main_arg0, V_main_arg2, V_main_arg3, V_v14, V_v16]
  have hz' : (fun a => win0_5.index t0_0 a * main_v17_0.ty.shape.size a) = fun _ => 0 := by
    funext a; fin_cases a <;> exact Nat.zero_mul _
  exact (Memref.read_access_unit_zero (Elt F) main_v17_0 hz' (fun a => by rw [congrFun hz' a]; simp) (result0 m c)).symm
theorem flushed6_eq (c : Dev nD) (t : Fin cfg0.N) (hf : (cfg0.win 6).flush t = true) :
    (dats m 0 c).flushed 6 t = ((cfg0.win 6).blk t).view.read (Elt F) (result1 m c) := by
  obtain rfl : t = t0_0 := fin_N0 t
  rw [Value.flushed6, out6_eq, iblk1_eq, iblk2_eq, V_main_arg2, V_v14]
  have hz' : (fun a => win0_6.index t0_0 a * main_v17_1.ty.shape.size a) = fun _ => 0 := by
    funext a; fin_cases a <;> exact Nat.zero_mul _
  exact (Memref.read_access_unit_zero (Elt F) main_v17_1 hz' (fun a => by rw [congrFun hz' a]; simp) (result1 m c)).symm

theorem final5 (c : Dev nD) : (dats m 0 c).arrAt 5 cfg0.N = result0 m c :=
  (dats m 0 c).arrAt_eq_of_cover 5 (result0 m c) (flushed5_eq m c) fun i => by
    have h0 : (i 0 : Nat) < 3584 := (i 0).isLt
    have h1 : (i 1 : Nat) < 1792 := (i 1).isLt
    refine ⟨t0_0, flush0_5 t0_0, ?_⟩
    show i ∈ ((View.whole main_v17_0).slice (win0_5.rect t0_0)).set
    rw [View.set_slice_whole, Rect.mem_set_unit]
    intro a
    match a with
    | ⟨0, _⟩ => show 0 * 3584 ≤ (i 0 : Nat) ∧ (i 0 : Nat) < 0 * 3584 + 3584; omega
    | ⟨1, _⟩ => show 0 * 1792 ≤ (i 1 : Nat) ∧ (i 1 : Nat) < 0 * 1792 + 1792; omega
theorem final6 (c : Dev nD) : (dats m 0 c).arrAt 6 cfg0.N = result1 m c :=
  (dats m 0 c).arrAt_eq_of_cover 6 (result1 m c) (flushed6_eq m c) fun i => by
    have h0 : (i 0 : Nat) < 2 := (i 0).isLt
    have h1 : (i 1 : Nat) < 2048 := (i 1).isLt
    have h2 : (i 2 : Nat) < 1792 := (i 2).isLt
    refine ⟨t0_0, flush0_6 t0_0, ?_⟩
    show i ∈ ((View.whole main_v17_1).slice (win0_6.rect t0_0)).set
    rw [View.set_slice_whole, Rect.mem_set_unit]
    intro a
    match a with
    | ⟨0, _⟩ => show 0 * 2 ≤ (i 0 : Nat) ∧ (i 0 : Nat) < 0 * 2 + 2; omega
    | ⟨1, _⟩ => show 0 * 2048 ≤ (i 1 : Nat) ∧ (i 1 : Nat) < 0 * 2048 + 2048; omega
    | ⟨2, _⟩ => show 0 * 1792 ≤ (i 2 : Nat) ∧ (i 2 : Nat) < 0 * 1792 + 1792; omega

/-- The run: the three results, and the arguments unchanged. -/
theorem run : θ_run defs (onTc (τ := τ) (main (F := F))) ⟨m, fun _ => 0, ρ⟩ fun r => ∀ c : Dev nD,
    r.2.mem ((c.tc : Thread nD τ).loc main_v17_0) = result0 m c
    ∧ r.2.mem ((c.tc : Thread nD τ).loc main_v17_1) = result1 m c
    ∧ r.2.mem ((c.tc : Thread nD τ).loc main_v11) = result2 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(Value.post5 m r h c).trans (final5 m c), (Value.post6 m r h c).trans (final6 m c),
      ((h c).2 main_v11 (Pipeline.mem_restRefs_of main_v11 (by decide) (by decide))).trans (V_v11 m c),
      Value.kept_main_arg0 m r h c, Value.kept_main_arg1 m r h c, Value.kept_main_arg2 m r h c, Value.kept_main_arg3 m r h c⟩)
    (run_main m ρ)

end Cert.ReferenceIdeal.Run

end
-- ==== Proof.Power.lean ====
/- Powers of two, on extended reals: the float whose exponent field is `c` is `2 ^ (c - 127)`; the eight-step search finds
   the exponent field of a positive normal number; and the scale built from that field is two to the power of the floor of
   the binary logarithm, plus one. -/
module

public import Idealize.ShloMosaic.Lib.Pointwise

@[expose] public section

set_option maxRecDepth 16384

noncomputable section

namespace Cert.Power

open Idealize.ShloMosaic

/-- `2 ^ n`. -/
def two (n : ℤ) : EReal := (((2 : ℝ) ^ n : ℝ) : EReal)

/-- Powers of two are ordered as their exponents. -/
theorem two_le_two {a b : ℤ} : two a ≤ two b ↔ a ≤ b := by
  unfold two
  rw [EReal.coe_le_coe_iff]
  exact zpow_le_zpow_iff_right₀ (by norm_num)

/-- The sign, exponent and fraction fields of the word `c` shifted left by 23. -/
theorem fields : ∀ c : Fin 255,
    ((BitVec.ofNat 32 c.val <<< 23).extractLsb' 31 1 == 1#1) = false
    ∧ ((BitVec.ofNat 32 c.val <<< 23).extractLsb' 23 8).toNat = c.val
    ∧ ((BitVec.ofNat 32 c.val <<< 23).extractLsb' 0 23).toNat = 0 := by decide +kernel

/-- A word with sign zero, exponent field `c` and fraction zero is `2 ^ (c - 127)`. -/
theorem ieee_field (b : BitVec 32) (c : ℕ) (f1 : (b.extractLsb' (8 + 23) 1 == 1#1) = false)
    (f2 : (b.extractLsb' 23 8).toNat = c) (f3 : (b.extractLsb' 0 23).toNat = 0) (h1 : 1 ≤ c) (h2 : c ≤ 254) :
    Ideal.ieee 8 23 b = two ((c : ℤ) - 127) := by
  have h : ((c : ℤ) - 127) = ((23 : ℕ) : ℤ) + ((c : ℤ) - (2 ^ (8 - 1) - 1) - ((23 : ℕ) : ℤ)) := by omega
  have p : ((2 : ℝ)) ^ (((23 : ℕ) : ℤ) + ((c : ℤ) - (2 ^ (8 - 1) - 1) - ((23 : ℕ) : ℤ)))
      = 2 ^ 23 * 2 ^ ((c : ℤ) - (2 ^ (8 - 1) - 1) - ((23 : ℕ) : ℤ)) := by
    rw [zpow_add₀ (by norm_num), zpow_natCast]
  unfold Ideal.ieee two
  rw [f1, f2, f3, if_neg (show ¬ c = 2 ^ 8 - 1 by omega), if_neg (show ¬ c = 0 by omega), h, p]
  congr 2
  rw [if_neg (by decide), Nat.add_zero, Nat.cast_pow, Nat.cast_ofNat, one_mul]

/-- The float with exponent field `c` and fraction zero is `2 ^ (c - 127)`. -/
theorem ofBits_field (c : ℕ) (h1 : 1 ≤ c) (h2 : c ≤ 254) :
    Ideal.ofBits .f32 (BitVec.ofNat 32 c <<< 23) = two ((c : ℤ) - 127) := by
  obtain ⟨f1, f2, f3⟩ := fields ⟨c, by omega⟩
  exact ieee_field _ c f1 f2 f3 h1 h2

/-- The float with all exponent bits set and fraction zero is infinite. -/
theorem ofBits_inf : Ideal.ofBits .f32 0x7F800000#32 = ⊤ := by
  simp [Ideal.ofBits, Ideal.ieee]

/-- The constant two. -/
theorem ofBits_two : Ideal.ofBits .f32 0x40000000#32 = ((2 : ℝ) : EReal) := by
  have h := ofBits_field 128 (by decide) (by decide)
  have e : (BitVec.ofNat 32 128 <<< 23 : BitVec 32) = 0x40000000#32 := by decide
  rw [e] at h
  rw [h]; unfold two; norm_num

/-- One step of the search: take the bit when the power of two it leads to does not exceed `t`. -/
def step (t : EReal) (bit b : BitVec 32) : BitVec 32 :=
  if Ideal.ofBits .f32 ((b + bit) <<< 23) ≤ t then b + bit else b

/-- The search, from the highest bit of the field to the lowest. -/
def search (t : EReal) : BitVec 32 :=
  step t 1#32 (step t 2#32 (step t 4#32 (step t 8#32 (step t 16#32 (step t 32#32 (step t 64#32 (step t 128#32 0#32)))))))

/-- The same step and search on natural numbers, for the comparison `c ≤ n`. -/
def nstep (n bit b : ℕ) : ℕ := if b + bit ≤ n then b + bit else b
def nsearch (n : ℕ) : ℕ :=
  nstep n 1 (nstep n 2 (nstep n 4 (nstep n 8 (nstep n 16 (nstep n 32 (nstep n 64 (nstep n 128 0)))))))

/-- The search for the largest `c ≤ n` finds `n`. -/
theorem nsearch_eq : ∀ n : Fin 256, nsearch n.val = n.val := by decide +kernel

theorem nstep_le (n bit b : ℕ) : nstep n bit b ≤ b + bit := by
  unfold nstep; split <;> omega

/-- For `t` between `2 ^ (n - 127)` and `2 ^ (n - 126)`, the power with exponent field `c` is at most `t` exactly when
    `c ≤ n`. -/
theorem field_le_iff {t : EReal} {n : ℕ} (hn : n ≤ 253) (hlo : two ((n : ℤ) - 127) ≤ t) (hhi : t < two ((n : ℤ) - 126))
    {c : ℕ} (hc : 1 ≤ c) (hc' : c ≤ 255) : Ideal.ofBits .f32 (BitVec.ofNat 32 c <<< 23) ≤ t ↔ c ≤ n := by
  rcases Nat.lt_or_ge c 255 with h | h
  · rw [ofBits_field c hc (by omega)]
    constructor
    · intro hle
      by_contra hcn
      have : two ((n : ℤ) - 126) ≤ two ((c : ℤ) - 127) := two_le_two.mpr (by omega)
      exact absurd (this.trans hle) (not_le.mpr hhi)
    · intro hcn
      exact (two_le_two.mpr (by omega)).trans hlo
  · obtain rfl : c = 255 := by omega
    rw [show (BitVec.ofNat 32 255 <<< 23 : BitVec 32) = 0x7F800000#32 by decide, ofBits_inf]
    constructor
    · intro hle
      exact absurd (le_top.trans_lt' hhi) (not_lt.mpr hle)
    · intro h; omega

theorem step_eq {t : EReal} {n : ℕ} (hn : n ≤ 253) (hlo : two ((n : ℤ) - 127) ≤ t) (hhi : t < two ((n : ℤ) - 126))
    {bit b : ℕ} (hbit : 1 ≤ bit) (hb : b + bit ≤ 255) :
    step t (BitVec.ofNat 32 bit) (BitVec.ofNat 32 b) = BitVec.ofNat 32 (nstep n bit b) := by
  unfold step nstep
  rw [← BitVec.ofNat_add]
  have h := field_le_iff hn hlo hhi (c := b + bit) (by omega) hb
  by_cases hc : b + bit ≤ n
  · rw [if_pos (h.mpr hc), if_pos hc]
  · rw [if_neg (fun hh => hc (h.mp hh)), if_neg hc]

/-- The search finds the exponent field. -/
theorem search_eq {t : EReal} {n : ℕ} (hn : n ≤ 253) (hlo : two ((n : ℤ) - 127) ≤ t) (hhi : t < two ((n : ℤ) - 126)) :
    search t = BitVec.ofNat 32 n := by
  have h1 := nstep_le n 128 0
  have h2 := nstep_le n 64 (nstep n 128 0)
  have h3 := nstep_le n 32 (nstep n 64 (nstep n 128 0))
  have h4 := nstep_le n 16 (nstep n 32 (nstep n 64 (nstep n 128 0)))
  have h5 := nstep_le n 8 (nstep n 16 (nstep n 32 (nstep n 64 (nstep n 128 0))))
  have h6 := nstep_le n 4 (nstep n 8 (nstep n 16 (nstep n 32 (nstep n 64 (nstep n 128 0)))))
  have h7 := nstep_le n 2 (nstep n 4 (nstep n 8 (nstep n 16 (nstep n 32 (nstep n 64 (nstep n 128 0))))))
  unfold search
  rw [step_eq hn hlo hhi (bit := 128) (b := 0) (by omega) (by omega),
    step_eq hn hlo hhi (bit := 64) (by omega) (by omega),
    step_eq hn hlo hhi (bit := 32) (by omega) (by omega),
    step_eq hn hlo hhi (bit := 16) (by omega) (by omega),
    step_eq hn hlo hhi (bit := 8) (by omega) (by omega),
    step_eq hn hlo hhi (bit := 4) (by omega) (by omega),
    step_eq hn hlo hhi (bit := 2) (by omega) (by omega),
    step_eq hn hlo hhi (bit := 1) (by omega) (by omega)]
  exact congrArg (BitVec.ofNat 32) (nsearch_eq ⟨n, by omega⟩)

/-- The power of two built from an integer exponent: zero below the normal range, infinite above it. -/
def pow2 (e : BitVec 32) : EReal :=
  if (e + 127#32).sle 0#32 = true then 0 else
    if (255#32).sle (e + 127#32) = true then ⊤ else Ideal.ofBits .f32 ((e + 127#32) <<< 23)

/-- The exponent of the scale: zero for a zero, subnormal or infinite argument. -/
def expo (a t : EReal) : BitVec 32 :=
  if (search t = 0#32 ∨ search t = 255#32) ∨ a = 0 then 0#32 else search t - 126#32

theorem sle_facts : ∀ c : Fin 255, 1 ≤ c.val →
    (BitVec.ofNat 32 c.val).sle 0#32 = false ∧ (255#32).sle (BitVec.ofNat 32 c.val) = false := by decide +kernel

theorem pow2_field {e : BitVec 32} (c : ℕ) (h : e + 127#32 = BitVec.ofNat 32 c) (h1 : 1 ≤ c) (h2 : c ≤ 254) :
    pow2 e = two ((c : ℤ) - 127) := by
  obtain ⟨s1, s2⟩ := sle_facts ⟨c, by omega⟩ h1
  dsimp only at s1 s2
  unfold pow2
  rw [h, s1, s2, if_neg (by decide), if_neg (by decide), ofBits_field c h1 h2]

/-- The exponent as the mathematics states it. -/
def logExpo (a t : EReal) : EReal :=
  if a = 0 then 0 else
    Ideal.liftRound Int.floor (Ideal.div (Ideal.log t) (Ideal.log (Ideal.ofBits .f32 0x40000000#32))) + 1

/-- Two to an integer power, by the real power function. -/
theorem pow_two (k : ℤ) : Ideal.pow (Ideal.ofBits .f32 0x40000000#32) (((k : ℝ)) : EReal) = two k := by
  rw [ofBits_two]
  show ((Real.rpow 2 (k : ℝ) : ℝ) : EReal) = two k
  unfold two
  congr 1
  exact Real.rpow_intCast 2 k

/-- The floor of the binary logarithm of a real between `2 ^ k` and `2 ^ (k + 1)` is `k`. -/
theorem floor_log2 (r : ℝ) (k : ℤ) (g1 : (2 : ℝ) ^ k ≤ r) (g2 : r < (2 : ℝ) ^ (k + 1)) :
    Ideal.liftRound Int.floor (Ideal.div (Ideal.log (r : EReal)) (Ideal.log (Ideal.ofBits .f32 0x40000000#32)))
      = ((k : ℝ) : EReal) := by
  have hr : 0 < r := lt_of_lt_of_le (by positivity) g1
  have h2 : 0 < Real.log 2 := Real.log_pos (by norm_num)
  have e1 : Ideal.log (r : EReal) = ((Real.log r : ℝ) : EReal) := by
    show (if r ≤ 0 then (⊥ : EReal) else ((Real.log r : ℝ) : EReal)) = _
    rw [if_neg (not_le.mpr hr)]
  have e2 : Ideal.log (Ideal.ofBits .f32 0x40000000#32) = ((Real.log 2 : ℝ) : EReal) := by
    rw [ofBits_two]
    show (if (2 : ℝ) ≤ 0 then (⊥ : EReal) else ((Real.log 2 : ℝ) : EReal)) = _
    rw [if_neg (by norm_num)]
  rw [e1, e2]
  have e3 : Ideal.div ((Real.log r : ℝ) : EReal) ((Real.log 2 : ℝ) : EReal) = ((Real.log r * (Real.log 2)⁻¹ : ℝ) : EReal) := by
    unfold Ideal.div
    rw [if_neg (by exact_mod_cast h2.ne'), ← EReal.coe_inv, ← EReal.coe_mul]
  rw [e3]
  show (((⌊Real.log r * (Real.log 2)⁻¹⌋ : ℤ) : ℝ) : EReal) = _
  have l1 := Real.log_le_log (by positivity) g1
  have l2 := Real.log_lt_log hr g2
  rw [Real.log_zpow] at l1 l2
  have : ⌊Real.log r * (Real.log 2)⁻¹⌋ = k := by
    rw [Int.floor_eq_iff, ← div_eq_mul_inv]
    constructor
    · rw [le_div_iff₀ h2]; exact l1
    · rw [div_lt_iff₀ h2]; push_cast at l2; exact l2
  rw [this]

/-- THE SCALE: for an argument that is zero, or whose product `t` with the constant is normal, the scale and the inverse
    scale built from the exponent field are two to the power of the floor of the binary logarithm plus one, and its
    inverse. -/
theorem scale_eq (a t : EReal) (h : a = 0 ∨ (two (-126) ≤ t ∧ t < two 126)) :
    pow2 (expo a t) = Ideal.pow (Ideal.ofBits .f32 0x40000000#32) (logExpo a t)
    ∧ pow2 (0#32 - expo a t) = Ideal.pow (Ideal.ofBits .f32 0x40000000#32) (-logExpo a t) := by
  by_cases ha : a = 0
  · have e : expo a t = 0#32 := by unfold expo; rw [if_pos (Or.inr ha)]
    have l : logExpo a t = (((0 : ℤ) : ℝ) : EReal) := by unfold logExpo; rw [if_pos ha]; simp
    have l' : -logExpo a t = (((0 : ℤ) : ℝ) : EReal) := by rw [l]; simp
    rw [e, l', l, pow_two, pow2_field 127 (by decide) (by decide) (by decide), pow2_field 127 (by decide) (by decide) (by decide)]
    exact ⟨by norm_num, by norm_num⟩
  · obtain ⟨hlo, hhi⟩ := h.resolve_left ha
    obtain ⟨r, rfl⟩ : ∃ r : ℝ, t = (r : EReal) := by
      induction t with
      | bot => exact absurd hlo (by simp [two])
      | top => exact absurd hhi (by simp)
      | coe r => exact ⟨r, rfl⟩
    have hlo' : (2 : ℝ) ^ (-126 : ℤ) ≤ r := EReal.coe_le_coe_iff.mp hlo
    have hhi' : r < (2 : ℝ) ^ (126 : ℤ) := EReal.coe_lt_coe_iff.mp hhi
    have hr : 0 < r := lt_of_lt_of_le (by positivity) hlo'
    obtain ⟨k, g1, g2⟩ : ∃ k : ℤ, (2 : ℝ) ^ k ≤ r ∧ r < (2 : ℝ) ^ (k + 1) := by
      obtain ⟨k, hk⟩ := exists_mem_Ico_zpow hr (y := 2) (by norm_num)
      exact ⟨k, hk.1, hk.2⟩
    have k1 : -126 ≤ k := by
      by_contra hc
      have : (2 : ℝ) ^ (k + 1) ≤ 2 ^ (-126 : ℤ) := zpow_le_zpow_right₀ (by norm_num) (by omega)
      linarith
    have k2 : k ≤ 125 := by
      by_contra hc
      have : (2 : ℝ) ^ (126 : ℤ) ≤ 2 ^ k := zpow_le_zpow_right₀ (by norm_num) (by omega)
      linarith
    obtain ⟨n, hn⟩ : ∃ n : ℕ, (n : ℤ) = k + 127 := ⟨(k + 127).toNat, by omega⟩
    have hs : search (r : EReal) = BitVec.ofNat 32 n := by
      refine search_eq (by omega) ?_ ?_
      · rw [show (n : ℤ) - 127 = k by omega]; exact EReal.coe_le_coe_iff.mpr g1
      · rw [show (n : ℤ) - 126 = k + 1 by omega]; exact EReal.coe_lt_coe_iff.mpr g2
    have n1 : 1 ≤ n := by omega
    have n2 : n ≤ 252 := by omega
    have e : expo a (r : EReal) = BitVec.ofNat 32 n - 126#32 := by
      unfold expo
      rw [hs, if_neg]
      rintro ((h | h) | h)
      · have := congrArg BitVec.toNat h
        simp only [BitVec.toNat_ofNat] at this
        omega
      · have := congrArg BitVec.toNat h
        simp only [BitVec.toNat_ofNat] at this
        omega
      · exact ha h
    have l : logExpo a (r : EReal) = (((k + 1 : ℤ) : ℝ) : EReal) := by
      unfold logExpo
      rw [if_neg ha, floor_log2 r k g1 g2]
      push_cast
      rfl
    have l' : -logExpo a (r : EReal) = (((-(k + 1) : ℤ) : ℝ) : EReal) := by
      rw [l, ← EReal.coe_neg]; push_cast; rfl
    rw [e, l', l, pow_two, pow_two]
    constructor
    · rw [pow2_field (n + 1) _ (by omega) (by omega)]
      · congr 1; push_cast; omega
      · apply BitVec.eq_of_toNat_eq
        simp only [BitVec.toNat_add, BitVec.toNat_sub, BitVec.toNat_ofNat]
        omega
    · rw [pow2_field (253 - n) _ (by omega) (by omega)]
      · congr 1; omega
      · apply BitVec.eq_of_toNat_eq
        simp only [BitVec.toNat_add, BitVec.toNat_sub, BitVec.toNat_ofNat]
        omega

end Cert.Power

end
-- ==== Proof.Scale.lean ====
/- The kernel's scale, exponent and codes read at an index, over exact numbers: the vector operations of the scale are the
   search for the exponent field and the power of two built from it, and one chunk's codes are the clipped products. -/
module

public import proofs.«01_k».proof.Proof.Values
public import proofs.«01_k».proof.Proof.Power
public import Idealize.ShloMosaic.Lib.Pointwise

@[expose] public section

set_option maxRecDepth 16384

noncomputable section

namespace Cert.KernelIdeal.Run

open Cert.KernelIdeal.Gen
open Idealize.ShloMosaic Idealize.ShloMosaic.Tactic
open Cert.Power

/-- One step of the search on one-element vectors. -/
def vstep (t : FVec Ideal S1x1 .f32) (bit : BitVec 32) (b : IVec S1x1 32) : IVec S1x1 32 :=
  select (cmpf .ole (bitcastToFloat .f32 (shli (addi b (broadcast S1x1 bit)) (broadcast S1x1 23#32))) t)
    (addi b (broadcast S1x1 bit)) b

/-- The search's first four steps, and its last four. -/
def vhigh (t : FVec Ideal S1x1 .f32) : IVec S1x1 32 :=
  vstep t 16#32 (vstep t 32#32 (vstep t 64#32 (vstep t 128#32 (broadcast S1x1 0#32))))
def vsearch (t : FVec Ideal S1x1 .f32) : IVec S1x1 32 :=
  vstep t 1#32 (vstep t 2#32 (vstep t 4#32 (vstep t 8#32 (vhigh t))))

/-- The exponent from the largest magnitude `a` and the exponent field `b`. -/
def vexpo (a : FVec Ideal S1x1 .f32) (b : IVec S1x1 32) : IVec S1x1 32 :=
  select (ori (ori (cmpi .eq b (broadcast S1x1 0#32)) (cmpi .eq b (broadcast S1x1 255#32)))
      (cmpf .oeq a (broadcast S1x1 (Scalar.ofBits (F := Ideal) .f32 0x00000000#32))))
    (broadcast S1x1 0#32) (subi b (broadcast S1x1 126#32))

/-- The power of two with exponent `e`. -/
def vpow2 (e : IVec S1x1 32) : FVec Ideal S1x1 .f32 :=
  select (cmpi .sle (addi e (broadcast S1x1 127#32)) (broadcast S1x1 0#32))
    (broadcast S1x1 (Scalar.ofBits (F := Ideal) .f32 0x00000000#32))
    (select (cmpi .sge (addi e (broadcast S1x1 127#32)) (broadcast S1x1 255#32))
      (broadcast S1x1 (Scalar.ofBits (F := Ideal) .f32 0x7F800000#32))
      (bitcastToFloat .f32 (shli (addi e (broadcast S1x1 127#32)) (broadcast S1x1 23#32))))

/-- One chunk's codes from the inverse scale `p`. -/
def quant (p : FVec Ideal S1x1 .f32) (v : Vec Ideal S64x1792 .bf16) : FVec Ideal S64x1792 .fp8e5m2 :=
  truncf .fp8e5m2 (minimumf (broadcast S64x1792 (Scalar.ofBits (F := Ideal) .f32 0x47600000#32))
    (maximumf (broadcast S64x1792 (Scalar.ofBits (F := Ideal) .f32 0xC7600000#32))
      (mulf (extf .f32 (shapeCast S64x1792 v shapeCasts_S64x1792_S64x1792) bitsLt_bf16_f32)
        (broadcastTo S64x1792 p broadcasts_S1x1_S64x1792)))) bitsLt_fp8e5m2_f32

/-- The printed operations are these. -/
theorem pay9_eq (v : FVec Ideal S16x1792 .bf16) : k0_pay9 v = vhigh (k0_pay8 v) := rfl
theorem pay10_eq (v : FVec Ideal S16x1792 .bf16) : k0_pay10 v = addi (vhigh (k0_pay8 v)) (broadcast S1x1 8#32) := rfl
theorem pay11_eq (a t : FVec Ideal S1x1 .f32) :
    k0_pay11 a t (vhigh t) (addi (vhigh t) (broadcast S1x1 8#32)) 23#32 = vexpo a (vsearch t) := rfl
theorem expoOf_eq (v : FVec Ideal S16x1792 .bf16) : expoOf v = vexpo (k0_pay7 v) (vsearch (k0_pay8 v)) := by
  unfold expoOf
  rw [pay9_eq, pay10_eq, pay11_eq]
theorem scaleOf_eq (v : FVec Ideal S16x1792 .bf16) : scaleOf v = vpow2 (expoOf v) := rfl
theorem pay2_eq (e : IVec S1x1 32) (v : Vec Ideal S64x1792 .bf16) :
    k0_pay2 e v = quant (vpow2 (subi (broadcast S1x1 0#32) e)) v := rfl
theorem factorOf_eq (v : FVec Ideal S16x1792 .bf16) (s : Elt Ideal .f32) :
    factorOf v s = shapeCast S1x1 (mulf (broadcast S1x1 s) (scaleOf v)) shapeCasts_S1x1_S1x1 := rfl

/-- A one-bit word made from a truth value, in a selection and in a disjunction. -/
theorem select_ofBool {α : Type} (c : Bool) (a b : α) : Scalar.select (BitVec.ofBool c) a b = if c = true then a else b := by
  cases c <;> rfl
theorem ori_ofBool (a b : Bool) : IntOp.ori (BitVec.ofBool a) (BitVec.ofBool b) = BitVec.ofBool (a || b) := by
  cases a <;> cases b <;> rfl

/-- Read at an index. -/
theorem vstep_apply (t : FVec Ideal S1x1 .f32) (bit : BitVec 32) (b : IVec S1x1 32) (i : S1x1.Idx) :
    vstep t bit b i = step (t i) bit (b i) := by
  unfold vstep step
  pointwise
  rfl
theorem vsearch_apply (t : FVec Ideal S1x1 .f32) (i : S1x1.Idx) : vsearch t i = search (t i) := by
  unfold vsearch vhigh search
  simp only [vstep_apply]
  rfl
theorem vexpo_apply (a : FVec Ideal S1x1 .f32) (t : FVec Ideal S1x1 .f32) (i : S1x1.Idx) :
    vexpo a (vsearch t) i = expo (a i) (t i) := by
  unfold vexpo expo
  rw [← vsearch_apply t i]
  generalize vsearch t = b
  pointwise
  generalize b i = x
  generalize a i = y
  show Scalar.select (IntOp.ori (IntOp.ori (BitVec.ofBool (x == 0#32)) (BitVec.ofBool (x == 255#32)))
    (BitVec.ofBool (decide (y = 0)))) (0#32) (x - 126#32) = _
  rw [ori_ofBool, ori_ofBool, select_ofBool]
  simp only [Bool.or_eq_true, beq_iff_eq, decide_eq_true_eq]
theorem vpow2_apply (e : IVec S1x1 32) (i : S1x1.Idx) : vpow2 e i = pow2 (e i) := by
  unfold vpow2 pow2
  pointwise
  generalize e i = x
  show Scalar.select (BitVec.ofBool ((x + 127#32).sle 0#32)) (0 : EReal)
    (Scalar.select (BitVec.ofBool ((255#32).sle (x + 127#32))) (Ideal.ofBits .f32 0x7F800000#32)
      (Ideal.ofBits .f32 ((x + 127#32) <<< 23))) = _
  rw [select_ofBool, select_ofBool, ofBits_inf]
theorem quant_apply (p : FVec Ideal S1x1 .f32) (v : Vec Ideal S64x1792 .bf16) (r : Fin 64) (l : Fin 1792) :
    quant p v (ix2 r l) = min (Ideal.ofBits .f32 0x47600000#32)
      (max (Ideal.ofBits .f32 0xC7600000#32) (v (ix2 r l) * p (ix2 0 0))) := by
  unfold quant
  pointwise
theorem pay8_apply (v : FVec Ideal S16x1792 .bf16) (i : S1x1.Idx) :
    k0_pay8 v i = k0_pay7 v i * Ideal.ofBits .f32 0x37924925#32 := by
  unfold k0_pay8
  generalize k0_pay7 v = a
  pointwise
theorem factorOf_apply (v : FVec Ideal S16x1792 .bf16) (s : Elt Ideal .f32) :
    factorOf v s (ix2 0 0) = s * scaleOf v (ix2 0 0) := by
  rw [factorOf_eq]
  generalize scaleOf v = a
  pointwise

end Cert.KernelIdeal.Run

end
-- ==== Proof.Amax.lean ====
/- The largest magnitude: the kernel's running maximum over 64 chunks, folded once more over its 16 rows and all its columns,
   is the reference's maximum over the whole array, because both are the least upper bound of the same magnitudes. -/
module

public import proofs.«01_k».proof.Proof.Values
public import proofs.«01_k».proof.Proof.RefRun
public import Idealize.ShloMosaic.Lib.Pointwise

@[expose] public section

set_option maxRecDepth 16384

noncomputable section

namespace Cert.KernelIdeal.Run

open Cert.KernelIdeal.Gen
open Idealize.ShloMosaic Idealize.ShloMosaic.Tactic

/-- The magnitude of an extended real. -/
def mag (x : EReal) : EReal := max x (-x)

theorem mag_nonneg (x : EReal) : 0 ≤ mag x := by
  unfold mag
  rcases le_total 0 x with h | h
  · exact le_max_of_le_left h
  · exact le_max_of_le_right (EReal.neg_nonneg.mpr h)

theorem bot_bf16 : Ideal.ofBits .bf16 0xFF80#16 = ⊥ := by simp [Ideal.ofBits, Ideal.ieee]
theorem bot_f32 : Ideal.ofBits .f32 0xFF800000#32 = ⊥ := by simp [Ideal.ofBits, Ideal.ieee]

/-- One chunk of the running maximum, read at an index. -/
theorem pay6_le (a : FVec Ideal S16x1792 .bf16) (v : FVec Ideal S64x1792 .bf16) (r : Fin 16) (l : Fin 1792) (z : EReal) :
    k0_pay6 a v (ix2 r l) ≤ z ↔ a (ix2 r l) ≤ z
      ∧ ∀ x : Fin 4, mag (v (ix2 (n0 := 64) (n1 := 1792) ⟨x.val * 16 + r.val, by omega⟩ l)) ≤ z := by
  have h : k0_pay6 a v (ix2 r l) = max (a (ix2 r l)) (Finset.fold max (Ideal.ofBits .bf16 0xFF80#16)
      (fun x : Fin 4 => mag (v (ix2 (n0 := 64) (n1 := 1792) ⟨x.val * 16 + r.val, by omega⟩ l))) Finset.univ) := by
    unfold k0_pay6
    pointwise
    rfl
  rw [h, max_le_iff, Finset.fold_max_le, bot_bf16]
  simp

/-- After `k` chunks the running maximum is the least upper bound of zero and the magnitudes that it has met. -/
theorem maxAcc_le (y : Vec Ideal S4096x1792 .bf16) (r : Fin 16) (l : Fin 1792) (z : EReal) (k : ℕ) :
    maxAcc y k (ix2 r l) ≤ z ↔ 0 ≤ z
      ∧ ∀ q : ℕ, q < k → ∀ x : Fin 4, mag (y (rowIdx (64 * q + (x.val * 16 + r.val)) l)) ≤ z := by
  induction k with
  | zero =>
    have h : (maxAcc y 0 (ix2 r l) : EReal) = 0 := by
      unfold maxAcc k0_pay5
      pointwise
    rw [h]
    simp
  | succ k ih =>
    show k0_pay6 (maxAcc y k) (chunk y k) (ix2 r l) ≤ z ↔ _
    rw [pay6_le, ih]
    constructor
    · rintro ⟨⟨h0, h1⟩, h2⟩
      refine ⟨h0, fun q hq x => ?_⟩
      rcases Nat.lt_succ_iff_lt_or_eq.mp hq with h | rfl
      · exact h1 q h x
      · exact h2 x
    · rintro ⟨h0, h1⟩
      exact ⟨⟨h0, fun q hq x => h1 q (by omega) x⟩, fun x => h1 k (by omega) x⟩

/-- The last fold. -/
theorem pay7_le (v : FVec Ideal S16x1792 .bf16) (z : EReal) :
    k0_pay7 v (ix2 0 0) ≤ z ↔ ∀ (r : Fin 16) (l : Fin 1792), v (ix2 r l) ≤ z := by
  have h : k0_pay7 v (ix2 0 0) = Finset.fold max (Ideal.ofBits .f32 0xFF800000#32)
      (fun x : Fin 16 × Fin 1792 => v (ix2 x.1 x.2)) Finset.univ := by
    unfold k0_pay7
    pointwise
  rw [h, Finset.fold_max_le, bot_f32]
  simp

/-- The kernel's largest magnitude is the least upper bound of all magnitudes. -/
theorem amax_le (y : Vec Ideal S4096x1792 .bf16) (z : EReal) :
    k0_pay7 (maxAcc y 64) (ix2 0 0) ≤ z ↔ ∀ (r : Fin 4096) (l : Fin 1792), mag (y (ix2 r l)) ≤ z := by
  rw [pay7_le]
  constructor
  · intro h r l
    have := ((maxAcc_le y ⟨r.val % 16, by omega⟩ l z 64).mp (h _ l)).2 (r.val / 64) (by omega) ⟨r.val % 64 / 16, by omega⟩
    have e : rowIdx (64 * (r.val / 64) + (r.val % 64 / 16 * 16 + r.val % 16)) l = ix2 r l := by
      unfold rowIdx
      congr 1
      apply Fin.ext
      show (64 * (r.val / 64) + (r.val % 64 / 16 * 16 + r.val % 16)) % 4096 = r.val
      omega
    dsimp only at this
    rwa [e] at this
  · intro h r l
    refine (maxAcc_le y r l z 64).mpr ⟨(mag_nonneg _).trans (h 0 0), fun q _ x => h _ l⟩

/-- The reference's largest magnitude is the least upper bound of all magnitudes. -/
theorem ref_amax_le (y : Vec Ideal Cert.ReferenceIdeal.S2x2048x1792 .bf16) (i : Cert.ReferenceIdeal.S_.Idx) (z : EReal) :
    Cert.ReferenceIdeal.Run.amax y i ≤ z
      ↔ ∀ (b : Fin 2) (s : Fin 2048) (l : Fin 1792), mag (y (ix3 b s l)) ≤ z := by
  have h : Cert.ReferenceIdeal.Run.amax y i = Finset.fold max (Ideal.ofBits .f32 0xFF800000#32)
      (fun k : Fin 2 × Fin 2048 × Fin 1792 => mag (y (ix3 k.1 k.2.1 k.2.2))) Finset.univ := by
    unfold Cert.ReferenceIdeal.Run.amax
    pointwise
    rfl
  rw [h, Finset.fold_max_le, bot_f32]
  simp

/-- The two-axis view of the gradient, read at an index. -/
theorem rows_apply (y : Vec Ideal S2x2048x1792 .bf16) (r : Fin 4096) (l : Fin 1792) :
    shapeCast S4096x1792 y shapeCasts_S2x2048x1792_S4096x1792 (ix2 r l)
      = y (ix3 (n0 := 2) (n1 := 2048) (n2 := 1792) ⟨r.val / 2048, by omega⟩ ⟨r.val % 2048, by omega⟩ l) := by
  pointwise

/-- THE LARGEST MAGNITUDE: the kernel's, of the gradient's two-axis view, is the reference's. -/
theorem amax_eq (y : Vec Ideal S2x2048x1792 .bf16) (i : Cert.ReferenceIdeal.S_.Idx) :
    (k0_pay7 (maxAcc (shapeCast S4096x1792 y shapeCasts_S2x2048x1792_S4096x1792) 64) (ix2 0 0) : EReal)
      = Cert.ReferenceIdeal.Run.amax (F := Ideal) y i := by
  refine eq_of_forall_ge_iff fun z => ?_
  rw [amax_le, ref_amax_le]
  constructor
  · intro h b s l
    have := h ⟨2048 * b.val + s.val, by omega⟩ l
    rw [rows_apply] at this
    have e : (ix3 (n0 := 2) (n1 := 2048) (n2 := 1792) ⟨(2048 * b.val + s.val) / 2048, by omega⟩
        ⟨(2048 * b.val + s.val) % 2048, by omega⟩ l) = ix3 b s l := by
      congr 1 <;> apply Fin.ext <;> dsimp only <;> omega
    rwa [e] at this
  · intro h r l
    rw [rows_apply]
    exact h _ _ l

end Cert.KernelIdeal.Run

end
-- ==== Proof.Equation.lean ====
/- The equation: over exact numbers, and for a gradient that is all zeros or whose largest magnitude over 57344 is a normal
   number, the kernel's scale, codes and weight gradient are the reference's. -/
module

public import proofs.«01_k».proof.Proof.Scale
public import proofs.«01_k».proof.Proof.Amax
public import proofs.«01_k».proof.Proof.Results

@[expose] public section

set_option maxRecDepth 16384

noncomputable section

namespace Cert.KernelIdeal.Run

open Cert.KernelIdeal.Gen
open Idealize.ShloMosaic Idealize.ShloMosaic.Tactic
open Cert.Power

/-- The gradient's two-axis view. -/
def flat (y : Vec Ideal S2x2048x1792 .bf16) : Vec Ideal S4096x1792 .bf16 :=
  shapeCast S4096x1792 y shapeCasts_S2x2048x1792_S4096x1792

/-- The reference's largest magnitude. -/
def refAmax (y : Vec Ideal S2x2048x1792 .bf16) : EReal := Cert.ReferenceIdeal.Run.amax (F := Ideal) y ix0

/-- What is asked of the gradient: it is all zeros, or its largest magnitude over 57344 is a normal number. -/
def Good (y : Vec Ideal S2x2048x1792 .bf16) : Prop :=
  refAmax y = 0 ∨ (two (-126) ≤ refAmax y * Ideal.ofBits .f32 0x37924925#32
    ∧ refAmax y * Ideal.ofBits .f32 0x37924925#32 < two 126)

/-- The reference's scale and inverse scale, as one number each. -/
def theScale (y : Vec Ideal S2x2048x1792 .bf16) : EReal := Cert.ReferenceIdeal.Run.scale (F := Ideal) y ix0
def theInv (y : Vec Ideal S2x2048x1792 .bf16) : EReal := Cert.ReferenceIdeal.Run.invScale (F := Ideal) y ix0

theorem scaleAt_apply (a : FVec Ideal Cert.ReferenceIdeal.S_ .f32) (i : Cert.ReferenceIdeal.S_.Idx) :
    Cert.ReferenceIdeal.Run.scaleAt a i
      = Ideal.pow (Ideal.ofBits .f32 0x40000000#32) (logExpo (a i) (a i * Ideal.ofBits .f32 0x37924925#32)) := by
  unfold Cert.ReferenceIdeal.Run.scaleAt Cert.ReferenceIdeal.Run.expoAt logExpo
  pointwise
theorem invScaleAt_apply (a : FVec Ideal Cert.ReferenceIdeal.S_ .f32) (i : Cert.ReferenceIdeal.S_.Idx) :
    Cert.ReferenceIdeal.Run.invScaleAt a i
      = Ideal.pow (Ideal.ofBits .f32 0x40000000#32) (-logExpo (a i) (a i * Ideal.ofBits .f32 0x37924925#32)) := by
  unfold Cert.ReferenceIdeal.Run.invScaleAt Cert.ReferenceIdeal.Run.expoAt logExpo
  pointwise

/-- The kernel's exponent, from the reference's largest magnitude. -/
theorem expo_eq (y : Vec Ideal S2x2048x1792 .bf16) : expoOf (maxAcc (flat y) 64) (ix2 0 0)
    = expo (refAmax y) (refAmax y * Ideal.ofBits .f32 0x37924925#32) := by
  rw [expoOf_eq, vexpo_apply, pay8_apply]
  have h : (k0_pay7 (maxAcc (flat y) 64) (ix2 0 0) : EReal) = refAmax y := amax_eq y ix0
  rw [h]

/-- The kernel's scale is the reference's. -/
theorem dyScale_eq (y : Vec Ideal S2x2048x1792 .bf16) (h : Good y) : dyScale (flat y) (ix2 0 0) = theScale y := by
  unfold dyScale theScale Cert.ReferenceIdeal.Run.scale
  rw [scaleOf_eq, vpow2_apply, expo_eq, scaleAt_apply]
  exact (scale_eq _ _ h).1

/-- The kernel's inverse scale is the reference's. -/
theorem inv_eq (y : Vec Ideal S2x2048x1792 .bf16) (h : Good y) :
    vpow2 (subi (broadcast S1x1 0#32) (expoOf (maxAcc (flat y) 64))) (ix2 0 0) = theInv y := by
  unfold theInv Cert.ReferenceIdeal.Run.invScale
  rw [vpow2_apply, invScaleAt_apply]
  have e : subi (broadcast S1x1 0#32) (expoOf (maxAcc (flat y) 64)) (ix2 0 0)
      = 0#32 - expo (refAmax y) (refAmax y * Ideal.ofBits .f32 0x37924925#32) := by
    rw [← expo_eq]
    generalize expoOf (maxAcc (flat y) 64) = e
    rfl
  rw [e]
  exact (scale_eq _ _ h).2

/-- One code: the scaled entry, clipped. -/
def code (p v : EReal) : EReal :=
  min (Ideal.ofBits .f32 0x47600000#32) (max (Ideal.ofBits .f32 0xC7600000#32) (v * p))

/-- The kernel's codes, read at an index. -/
theorem codes_apply (y : Vec Ideal S2x2048x1792 .bf16) (h : Good y) (r : Fin 4096) (l : Fin 1792) :
    codes (flat y) (ix2 r l) = code (theInv y) (flat y (ix2 r l)) := by
  have e : rowIdx (64 * (r.val / 64) + r.val % 64) l = ix2 r l := by
    unfold rowIdx
    congr 1
    apply Fin.ext
    show (64 * (r.val / 64) + r.val % 64) % 4096 = r.val
    omega
  unfold codes codesAt
  rw [pay2_eq]
  show quant _ (chunk (flat y) (r.val / 64)) (ix2 ⟨r.val % 64, _⟩ l) = _
  rw [quant_apply, inv_eq y h]
  unfold code
  show min _ (max _ (flat y (rowIdx (64 * (r.val / 64) + r.val % 64) l) * theInv y)) = _
  rw [e]

/-- The reference's codes, read at an index. -/
theorem ref_codes_apply (y : Vec Ideal S2x2048x1792 .bf16) (p : Vec Ideal Cert.ReferenceIdeal.S1x1 .f32)
    (b : Fin 2) (s : Fin 2048) (l : Fin 1792) :
    Cert.ReferenceIdeal.Gen.k0_pay1 (F := Ideal) y p (ix3 b s l) = code (p (ix2 0 0)) (y (ix3 b s l)) := by
  unfold Cert.ReferenceIdeal.Gen.k0_pay1 code
  pointwise

/-- A number as a one-element array. -/
theorem one_apply (a : FVec Ideal Cert.ReferenceIdeal.S_ .f32) :
    shapeCast Cert.ReferenceIdeal.S1x1 a Cert.ReferenceIdeal.Gen.shapeCasts_S_S1x1 (ix2 0 0) = a ix0 := by
  pointwise

/-- THE SCALE. -/
theorem result2_eq (y : Vec Ideal S2x2048x1792 .bf16) (h : Good y) :
    shapeCast S_ (dyScale (flat y)) shapeCasts_S1x1_S_ = Cert.ReferenceIdeal.Run.scale (F := Ideal) y := by
  funext i
  obtain rfl : i = ix0 := by funext a; exact a.elim0
  have e := dyScale_eq y h
  unfold theScale at e
  rw [← e]
  generalize dyScale (flat y) = d
  pointwise

/-- THE CODES. -/
theorem result1_eq (y : Vec Ideal S2x2048x1792 .bf16) (h : Good y) :
    shapeCast S2x2048x1792 (codes (flat y)) shapeCasts_S4096x1792_S2x2048x1792
      = Cert.ReferenceIdeal.Gen.k0_pay1 (F := Ideal) y
          (shapeCast Cert.ReferenceIdeal.S1x1 (Cert.ReferenceIdeal.Run.invScale (F := Ideal) y)
            Cert.ReferenceIdeal.Gen.shapeCasts_S_S1x1) := by
  funext i
  obtain ⟨b, s, l, rfl⟩ : ∃ (b : Fin 2) (s : Fin 2048) (l : Fin 1792), i = ix3 b s l := ⟨i 0, i 1, i 2, eq_ix3 i⟩
  rw [ref_codes_apply, one_apply]
  have e : shapeCast S2x2048x1792 (codes (flat y)) shapeCasts_S4096x1792_S2x2048x1792 (ix3 b s l)
      = codes (flat y) (ix2 (n0 := 4096) (n1 := 1792) ⟨b.val * 2048 + s.val, by omega⟩ l) := by
    generalize codes (flat y) = d
    pointwise
  rw [e, codes_apply y h]
  unfold flat
  rw [rows_apply]
  show code _ _ = code (theInv y) _
  congr 2
  congr 1 <;> apply Fin.ext <;> dsimp only <;> omega

/-- The kernel's tile, read at an index. -/
theorem pay4_apply (x : Vec Ideal S4096x512 .fp8e4m3) (d : Vec Ideal S4096x1792 .fp8e5m2) (a : Vec Ideal S512x1792 .f32)
    (f : Vec Ideal S1x1 .f32) (r : Fin 512) (l : Fin 1792) :
    k0_pay4 x d a f (ix2 r l)
      = a (ix2 r l) + (∑ k : Fin 4096, x (ix2 k r) * d (ix2 k l)) * f (ix2 0 0) := by
  unfold k0_pay4
  pointwise

/-- The reference's weight gradient, read at an index. -/
theorem ref_dw_apply (y : Vec Ideal Cert.ReferenceIdeal.S2x2048x1792 .bf16) (p : Vec Ideal Cert.ReferenceIdeal.S1x1 .f32)
    (x : Vec Ideal Cert.ReferenceIdeal.S2x2048x3584 .fp8e4m3) (a : Vec Ideal Cert.ReferenceIdeal.S3584x1792 .f32)
    (f : Vec Ideal Cert.ReferenceIdeal.S1x1 .f32) (r : Fin 3584) (l : Fin 1792) :
    Cert.ReferenceIdeal.Gen.k0_pay2 (F := Ideal) y p x a f (ix2 r l)
      = a (ix2 r l) + (∑ k : Fin 4096,
          x (ix3 (n0 := 2) (n1 := 2048) (n2 := 3584) ⟨k.val / 2048, by omega⟩ ⟨k.val % 2048, by omega⟩ r)
          * Cert.ReferenceIdeal.Gen.k0_pay1 (F := Ideal) y p
              (ix3 (n0 := 2) (n1 := 2048) (n2 := 1792) ⟨k.val / 2048, by omega⟩ ⟨k.val % 2048, by omega⟩ l)) * f (ix2 0 0) := by
  unfold Cert.ReferenceIdeal.Gen.k0_pay2
  pointwise

/-- The two-axis view of the inputs' codes, read at an index. -/
theorem x_apply (x : Vec Ideal S2x2048x3584 .fp8e4m3) (k : Fin 4096) (r : Fin 3584) :
    shapeCast S4096x3584 x shapeCasts_S2x2048x3584_S4096x3584 (ix2 k r)
      = x (ix3 (n0 := 2) (n1 := 2048) (n2 := 3584) ⟨k.val / 2048, by omega⟩ ⟨k.val % 2048, by omega⟩ r) := by
  pointwise

/-- The factor of the products: the inputs' scale times the gradient's. -/
theorem factor_apply (s : Vec Ideal S_ .f32) (y : Vec Ideal S2x2048x1792 .bf16) (h : Good y) :
    factor (shapeCast S1x1 s shapeCasts_S_S1x1) (flat y) (ix2 0 0) = s ix0 * theScale y := by
  unfold factor
  rw [factorOf_apply]
  have e : shapeCast S1x1 s shapeCasts_S_S1x1 (ix2 0 0) = s ix0 := by pointwise
  rw [e, ← dyScale_eq y h]
  rfl
theorem ref_factor_apply (s a : FVec Ideal Cert.ReferenceIdeal.S_ .f32) :
    shapeCast Cert.ReferenceIdeal.S1x1 (mulf s a) Cert.ReferenceIdeal.Gen.shapeCasts_S_S1x1 (ix2 0 0) = s ix0 * a ix0 := by
  pointwise

/-- THE WEIGHT GRADIENT. -/
theorem result0_eq (x : Vec Ideal S2x2048x3584 .fp8e4m3) (s : Vec Ideal S_ .f32) (y : Vec Ideal S2x2048x1792 .bf16)
    (a : Vec Ideal S3584x1792 .f32) (h : Good y) :
    tiles (shapeCast S1x1 s shapeCasts_S_S1x1) (shapeCast S4096x3584 x shapeCasts_S2x2048x3584_S4096x3584) (flat y) a
      = Cert.ReferenceIdeal.Gen.k0_pay2 (F := Ideal) y
          (shapeCast Cert.ReferenceIdeal.S1x1 (Cert.ReferenceIdeal.Run.invScale (F := Ideal) y)
            Cert.ReferenceIdeal.Gen.shapeCasts_S_S1x1) x a
          (shapeCast Cert.ReferenceIdeal.S1x1 (mulf s (Cert.ReferenceIdeal.Run.scale (F := Ideal) y))
            Cert.ReferenceIdeal.Gen.shapeCasts_S_S1x1) := by
  funext i
  obtain ⟨r, l, rfl⟩ : ∃ (r : Fin 3584) (l : Fin 1792), i = ix2 r l := ⟨i 0, i 1, eq_ix2 i⟩
  have er : (⟨(512 * (r.val / 512) + r.val % 512) % 3584, Nat.mod_lt _ (by decide)⟩ : Fin 3584) = r := by
    apply Fin.ext; show (512 * (r.val / 512) + r.val % 512) % 3584 = r.val; omega
  unfold tiles tile
  show k0_pay4 _ _ _ _ (ix2 ⟨r.val % 512, _⟩ l) = _
  rw [pay4_apply, ref_dw_apply, ref_factor_apply, factor_apply s y h]
  show a (ix2 ⟨(512 * (r.val / 512) + r.val % 512) % 3584, _⟩ l)
    + (∑ k : Fin 4096, shapeCast S4096x3584 x shapeCasts_S2x2048x3584_S4096x3584
        (ix2 k ⟨(512 * (r.val / 512) + r.val % 512) % 3584, _⟩) * codes (flat y) (ix2 k l)) * (s ix0 * theScale y) = _
  rw [er]
  congr 2
  refine Finset.sum_congr rfl fun k _ => ?_
  rw [x_apply, codes_apply y h, ref_codes_apply, one_apply]
  unfold flat
  rw [rows_apply]
  exact congrArg₂ (· * ·) (congrArg (fun q : Fin 3584 => x (ix3 (n0 := 2) (n1 := 2048) (n2 := 3584)
    ⟨k.val / 2048, by omega⟩ ⟨k.val % 2048, by omega⟩ q)) er) rfl

end Cert.KernelIdeal.Run

end
-- ==== Proof.Good.lean ====
/- The precondition, read as a statement about numbers: the gradient is all zeros, or its largest magnitude over 57344 is a
   normal number. -/
module

public import proofs.«01_k».proof.Proof.Equation
public import proofs.«01_k».proof.Proof.Gen.Pre_pre
public import proofs.«01_k».proof.Pre_pre

@[expose] public section

set_option maxRecDepth 16384

noncomputable section

namespace Cert.KernelIdeal.Run

open Cert.KernelIdeal.Gen
open Idealize.ShloMosaic Idealize.ShloMosaic.Tactic
open Cert.Power

/-- The two bounds as powers of two. -/
theorem low_bound : Ideal.ofBits .f32 0x00800000#32 = two (-126) := by
  have h := ofBits_field 1 (by decide) (by decide)
  rwa [show (BitVec.ofNat 32 1 <<< 23 : BitVec 32) = 0x00800000#32 by decide,
    show (((1 : ℕ) : ℤ) - 127) = -126 by decide] at h
theorem high_bound : Ideal.ofBits .f32 0x7E800000#32 = two 126 := by
  have h := ofBits_field 253 (by decide) (by decide)
  rwa [show (BitVec.ofNat 32 253 <<< 23 : BitVec 32) = 0x7E800000#32 by decide,
    show (((253 : ℕ) : ℤ) - 127) = 126 by decide] at h

/-- The precondition's word as a function of the largest magnitude. -/
def preAt (a : FVec Ideal S_ .f32) : IVec S_ 1 :=
  ori (cmpf .oeq a (constant S_ .f32 0x00000000#32))
    (andi (cmpf .oge (mulf a (constant S_ .f32 0x37924925#32)) (constant S_ .f32 0x00800000#32))
      (cmpf .olt (mulf a (constant S_ .f32 0x37924925#32)) (constant S_ .f32 0x7E800000#32)))

theorem preAt_iff (a : FVec Ideal S_ .f32) (i : S_.Idx) (h : preAt a i = 1#1) :
    a i = 0 ∨ (two (-126) ≤ a i * Ideal.ofBits .f32 0x37924925#32 ∧ a i * Ideal.ofBits .f32 0x37924925#32 < two 126) := by
  unfold preAt at h
  pointwise at h
  have g : ∀ p q r : Bool, IntOp.ori (BitVec.ofBool p) (IntOp.andi (BitVec.ofBool q) (BitVec.ofBool r)) = 1#1
      → p = true ∨ (q = true ∧ r = true) := by decide
  have k := g _ _ _ h
  simp only [decide_eq_true_eq] at k
  rwa [low_bound, high_bound] at k

theorem good_of_pre (x : FVec Ideal S2x2048x3584 .fp8e4m3) (s : FVec Ideal S_ .f32) (y : FVec Ideal S2x2048x1792 .bf16)
    (a : FVec Ideal S3584x1792 .f32)
    (h : @Cert.Pre_pre.fn Cert.Pre_pre.Gen.facts Ideal _ x s y a = fun _ => 1#1) : Good y :=
  preAt_iff (Cert.ReferenceIdeal.Run.amax (F := Ideal) y) ix0 (congrFun h ix0)

end Cert.KernelIdeal.Run

end
-- ==== Proof.lean ====
/- The assembly: the kernel runs and leaves its arguments as they were, at its own formats and over exact numbers; so does
   the reference; and over exact numbers the two end with the same weight gradient, codes and scale. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_pre
public import proofs.«01_k».proof.Proof.Run
public import proofs.«01_k».proof.Proof.KernelFrame
public import proofs.«01_k».proof.Proof.RefRun
public import proofs.«01_k».proof.Proof.Good
public import Idealize.ShloMosaic.Adequacy
public import Idealize.ShloMosaic.Init

@[expose] public section

set_option maxRecDepth 16384

noncomputable section

namespace Cert.Proof

open Idealize.ShloMosaic Idealize.SL.Sem Cert.Kernel

/-- The value claim: the kernel's three results are the reference's. -/
theorem algebraic : Cert.algebraic_KernelIdeal_ReferenceIdeal_pre_pre (hKernelIdeal := Cert.KernelIdeal.Gen.facts)
    (hReferenceIdeal := Cert.ReferenceIdeal.Gen.facts) (hPre_pre := Cert.Pre_pre.Gen.facts) := by
  intro m g m' g' hpre hargs
  have good : ∀ c : Dev Cert.KernelIdeal.nD, Cert.KernelIdeal.Run.Good (m ((c.tc : Thread Cert.KernelIdeal.nD Cert.KernelIdeal.τ).loc Cert.KernelIdeal.main_arg2)) :=
    fun c => Cert.KernelIdeal.Run.good_of_pre _ _ _ _ (hpre c)
  refine ⟨Cert.KernelIdeal.Run.result0 m, Cert.KernelIdeal.Run.result1 m, Cert.KernelIdeal.Run.result2 m,
    Cert.KernelIdeal.Run.run m g, ?_⟩
  refine (θ_run Cert.ReferenceIdeal.defs _ _).mono (fun r h c => ?_) (Cert.ReferenceIdeal.Run.run m' g')
  obtain ⟨h0, h1, h2, hk⟩ := h c
  obtain ⟨a0, a1, a2, a3⟩ := hargs c
  refine ⟨h0.trans ?_, h1.trans ?_, h2.trans ?_, hk⟩
  · unfold Cert.ReferenceIdeal.Run.result0
    rw [a0, a1, a2, a3]
    exact (Cert.KernelIdeal.Run.result0_eq _ _ _ _ (good c)).symm
  · unfold Cert.ReferenceIdeal.Run.result1
    rw [a2]
    exact (Cert.KernelIdeal.Run.result1_eq _ (good c)).symm
  · unfold Cert.ReferenceIdeal.Run.result2
    rw [a2]
    exact (Cert.KernelIdeal.Run.result2_eq _ (good c)).symm

theorem claim : Cert.Claim :=
  ⟨Cert.Kernel.Gen.facts, Cert.KernelIdeal.Gen.facts, Cert.ReferenceIdeal.Gen.facts, Cert.Pre_pre.Gen.facts,
    fun m ρ _ => Cert.Kernel.Run.frame m ρ,
    fun m ρ _ => Cert.KernelIdeal.Run.frame m ρ,
    fun m ρ _ => Cert.KernelIdeal.Run.frame m ρ,
    fun m ρ _ => Cert.ReferenceIdeal.Gen.frame m ρ,
    fun m ρ _ => Cert.ReferenceIdeal.Gen.frame m ρ,
    trivial,
    algebraic⟩

end Cert.Proof

end
